-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_cosines [hPre_cosines : Cert.Pre_cosines.Facts] (m : (ℓ : Loc Cert.KernelIdeal.nD Cert.KernelIdeal.τ Cert.KernelIdeal.sig) → Buf (Elt Ideal) ℓ) : Prop :=
  ∀ c : Dev Cert.KernelIdeal.nD,
    (Cert.Pre_cosines.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cosines [hPre_cosines : Cert.Pre_cosines.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cosines.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_cosines [hKernelIdeal : Cert.KernelIdeal.Facts] [hPre_cosines : Cert.Pre_cosines.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cosines m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_cosines [hReferenceIdeal : Cert.ReferenceIdeal.Facts] [hPre_cosines : Cert.Pre_cosines.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cosines m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "keep" .f32 0x3F7D70A4#32 ((531502203 / 536870912 : ℝ) : EReal)

def algebraic_KernelIdeal_ReferenceIdeal_pre_cosines [hKernelIdeal : Cert.KernelIdeal.Facts] [hReferenceIdeal : Cert.ReferenceIdeal.Facts] [hPre_cosines : Cert.Pre_cosines.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cosines m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_cosines : Cert.Pre_cosines.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_cosines (hKernelIdeal := hKernelIdeal) (hPre_cosines := hPre_cosines)
    ∧ quiescent_ReferenceIdeal (hReferenceIdeal := hReferenceIdeal)
    ∧ quiescent_ReferenceIdeal_pre_cosines (hReferenceIdeal := hReferenceIdeal) (hPre_cosines := hPre_cosines)
    ∧ preserves_Kernel_KernelIdeal
    ∧ algebraic_KernelIdeal_ReferenceIdeal_pre_cosines (hKernelIdeal := hKernelIdeal) (hReferenceIdeal := hReferenceIdeal) (hPre_cosines := hPre_cosines)
-- ==== Pre_cosines.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x100000 : S_.BroadcastsInDim S1024x100000 (![] : Fin 0 → Fin S1024x100000.rank)
  reducesTo_S1024x100000_S_d0_1 : S1024x100000.ReducesTo [0, 1] S_

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_cst : FVec F S_ .f32 := constant S_ .f32 0xBF800000#32
  let main_v6 : FVec F S1024x100000 .f32 := broadcastInDim S1024x100000 ![] bcast_S_S1024x100000 main_cst
  let main_v7 : IVec S1024x100000 1 := cmpf .oge main_arg0 main_v6
  let main_cst_2 : FVec F S_ .f32 := constant S_ .f32 0x3F800000#32
  let main_v8 : FVec F S1024x100000 .f32 := broadcastInDim S1024x100000 ![] bcast_S_S1024x100000 main_cst_2
  let main_v9 : IVec S1024x100000 1 := cmpf .ole main_arg0 main_v8
  let main_v10 : IVec S1024x100000 1 := andi main_v7 main_v9
  let main_c_3 : IVec S_ 1 := constantI S_ 1 1#1
  let main_v11 : IVec S_ 1 := (fun x v => Host.reduce IntOp.andi x v reducesTo_S1024x100000_S_d0_1 h_S_) main_v10 main_c_3
  let main_v12 : IVec S_ 1 := andi main_v5 main_v11
  main_v12
-- ==== Pre_labels_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S102400000 : Shape := ⟨1, ![102400000]⟩
abbrev S32 : Shape := ⟨1, ![32]⟩
abbrev S_ : Shape := ⟨0, ![]⟩
abbrev S16 : Shape := ⟨1, ![16]⟩
abbrev S1024x1 : Shape := ⟨2, ![1024, 1]⟩
abbrev S1x1 : Shape := ⟨2, ![1, 1]⟩
abbrev S128x4096 : Shape := ⟨2, ![128, 4096]⟩
abbrev S128x128 : Shape := ⟨2, ![128, 128]⟩
abbrev S1 : Shape := ⟨1, ![1]⟩
abbrev S1x1024x1 : Shape := ⟨3, ![1, 1024, 1]⟩
abbrev S1x1x1 : Shape := ⟨3, ![1, 1, 1]⟩
abbrev S128x1 : Shape := ⟨2, ![128, 1]⟩
abbrev S128x32x128 : Shape := ⟨3, ![128, 32, 128]⟩
abbrev S128 : Shape := ⟨1, ![128]⟩
abbrev S1x128x1 : Shape := ⟨3, ![1, 128, 1]⟩

abbrev nBuf : Table → Nat
  | .hbm => 7
  | .local .tc .vmem => 4
  | .local .tc .smem => 2
  | .local .scVector .vmem => 3
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S102400000, .f32⟩
  | .hbm, ⟨3, _⟩ => ⟨S1024, .f32⟩
  | .hbm, ⟨4, _⟩ => ⟨S1024x1, .f32⟩
  | .hbm, ⟨5, _⟩ => ⟨S1x1, .f32⟩
  | .hbm, ⟨6, _⟩ => ⟨S_, .f32⟩
  | .local .tc .vmem, ⟨0, _⟩ => ⟨S128x4096, .f32⟩
  | .local .tc .vmem, ⟨1, _⟩ => ⟨S128x4096, .f32⟩
  | .local .tc .vmem, ⟨2, _⟩ => ⟨S1024x1, .f32⟩
  | .local .tc .vmem, ⟨3, _⟩ => ⟨S128x128, .f32⟩
  | .local .tc .smem, ⟨0, _⟩ => ⟨S1x1, .f32⟩
  | .local .tc .smem, ⟨1, _⟩ => ⟨S1, .f32⟩
  | .local .scVector .vmem, ⟨0, _⟩ => ⟨S32, .i32⟩
  | .local .scVector .vmem, ⟨1, _⟩ => ⟨S32, .i32⟩
  | .local .scVector .vmem, ⟨2, _⟩ => ⟨S32, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_scratch0 : Ref sig .tc := ⟨.vmem, 3, rfl⟩
abbrev cc1_stg2_0 : Ref sig .tc := ⟨.smem, 0, rfl⟩
abbrev cc1_scratch1 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem2_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨2, ![8, 25], ![false, false]⟩

def k1_off1 (i : grid1.Coords) : Fin 2 → Nat :=
  let arg0 : BitVec 32 := BitVec.ofNat 32 (i 0).val
  let c128_i32 : BitVec 32 := 128#32
  let v6 : BitVec 32 := Scalar.muli arg0 c128_i32
  let v7 : Index := Scalar.indexCast v6
  let c0_2 : Index := 0#32
  ![v7.toNat, 0]
def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k1_cond4 (i : grid1.Coords) : BitVec 1 :=
  let arg1 : BitVec 32 := BitVec.ofNat 32 (i 1).val
  let c24_i32 : BitVec 32 := 24#32
  let v47 : BitVec 1 := Scalar.cmpi .eq arg1 c24_i32
  let v48 : BitVec 32 := Scalar.extui v47
  let c0_i32_15 : BitVec 32 := 0#32
  let v49 : BitVec 1 := Scalar.cmpi .ne v48 c0_i32_15
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "keep" => some ((531502203 / 536870912 : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 109
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1024x100000, .f32⟩
  | .hbm, ⟨6, _⟩ => ⟨S1024x100000, .f32⟩
  | .hbm, ⟨7, _⟩ => ⟨S_, .f32⟩
  | .hbm, ⟨8, _⟩ => ⟨S1024x100000, .f32⟩
  | .hbm, ⟨9, _⟩ => ⟨S1024x100000, .f32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x1, .i32⟩
  | .hbm, ⟨27, _⟩ => ⟨S1024x2, .i32⟩
  | .hbm, ⟨28, _⟩ => ⟨S1024, .f32⟩
  | .hbm, ⟨29, _⟩ => ⟨S1024x1, .f32⟩
  | .hbm, ⟨30, _⟩ => ⟨S1024x1, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S1024x1, .f32⟩
  | .hbm, ⟨35, _⟩ => ⟨S_, .f32⟩
  | .hbm, ⟨36, _⟩ => ⟨S1024x1, .f32⟩
  | .hbm, ⟨37, _⟩ => ⟨S1024x1, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1024x100000, .f32⟩
  | .hbm, ⟨55, _⟩ => ⟨S1024x100000, .i1⟩
  | .hbm, ⟨56, _⟩ => ⟨S1024x100000, .f32⟩
  | .hbm, ⟨57, _⟩ => ⟨S1024x100000, .f32⟩
  | .hbm, ⟨58, _⟩ => ⟨S1024x100000, .f32⟩
  | .hbm, ⟨59, _⟩ => ⟨S1024x100000, .f32⟩
  | .hbm, ⟨60, _⟩ => ⟨S1024, .f32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S_, .i32⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S_, .i32⟩
  | .hbm, ⟨69, _⟩ => ⟨S1024, .i32⟩
  | .hbm, ⟨70, _⟩ => ⟨S1024, .i1⟩
  | .hbm, ⟨71, _⟩ => ⟨S_, .i32⟩
  | .hbm, ⟨72, _⟩ => ⟨S1024, .i32⟩
  | .hbm, ⟨73, _⟩ => ⟨S1024, .i32⟩
  | .hbm, ⟨74, _⟩ => ⟨S1024, .i32⟩
  | .hbm, ⟨75, _⟩ => ⟨S1024x1, .i32⟩
  | .hbm, ⟨76, _⟩ => ⟨S1024x1, .i32⟩
  | .hbm, ⟨77, _⟩ => ⟨S1024x2, .i32⟩
  | .hbm, ⟨78, _⟩ => ⟨S1024x100000, .f32⟩
  | .hbm, ⟨79, _⟩ => ⟨S_, .f32⟩
  | .hbm, ⟨80, _⟩ => ⟨S1024x100000, .f32⟩
  | .hbm, ⟨81, _⟩ => ⟨S1024x100000, .f32⟩
  | .hbm, ⟨82, _⟩ => ⟨S1024x100000, .f32⟩
  | .hbm, ⟨83, _⟩ => ⟨S_, .f32⟩
  | .hbm, ⟨84, _⟩ => ⟨S1024, .f32⟩
  | .hbm, ⟨85, _⟩ => ⟨S1024, .f32⟩
  | .hbm, ⟨86, _⟩ => ⟨S_, .i32⟩
  | .hbm, ⟨87, _⟩ => ⟨S1024, .i32⟩
  | .hbm, ⟨88, _⟩ => ⟨S1024, .i1⟩
  | .hbm, ⟨89, _⟩ => ⟨S_, .i32⟩
  | .hbm, ⟨90, _⟩ => ⟨S1024, .i32⟩
  | .hbm, ⟨91, _⟩ => ⟨S1024, .i32⟩
  | .hbm, ⟨92, _⟩ => ⟨S1024, .i32⟩
  | .hbm, ⟨93, _⟩ => ⟨S_, .i32⟩
  | .hbm, ⟨94, _⟩ => ⟨S1024, .i32⟩
  | .hbm, ⟨95, _⟩ => ⟨S1024, .i1⟩
  | .hbm, ⟨96, _⟩ => ⟨S_, .i32⟩
  | .hbm, ⟨97, _⟩ => ⟨S1024, .i32⟩
  | .hbm, ⟨98, _⟩ => ⟨S1024, .i32⟩
  | .hbm, ⟨99, _⟩ => ⟨S1024, .i32⟩
  | .hbm, ⟨100, _⟩ => ⟨S1024x1, .i32⟩
  | .hbm, ⟨101, _⟩ => ⟨S1024x1, .i32⟩
  | .hbm, ⟨102, _⟩ => ⟨S1024x2, .i32⟩
  | .hbm, ⟨103, _⟩ => ⟨S1024, .f32⟩
  | .hbm, ⟨104, _⟩ => ⟨S1024, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_cst_10 : Ref sig .tc := ⟨.hbm, 48, rfl⟩
abbrev main_cst_11 : Ref sig .tc := ⟨.hbm, 49, rfl⟩
abbrev main_v29 : Ref sig .tc := ⟨.hbm, 50, rfl⟩
abbrev main_cst_12 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_13 : Ref sig .tc := ⟨.hbm, 61, rfl⟩
abbrev main_v39 : Ref sig .tc := ⟨.hbm, 62, rfl⟩
abbrev main_v40 : Ref sig .tc := ⟨.hbm, 63, rfl⟩
abbrev main_c_14 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_15 : Ref sig .tc := ⟨.hbm, 68, rfl⟩
abbrev main_v44 : Ref sig .tc := ⟨.hbm, 69, rfl⟩
abbrev main_v45 : Ref sig .tc := ⟨.hbm, 70, rfl⟩
abbrev main_c_16 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_17 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_18 : Ref sig .tc := ⟨.hbm, 83, rfl⟩
abbrev main_v56 : Ref sig .tc := ⟨.hbm, 84, rfl⟩
abbrev main_v57 : Ref sig .tc := ⟨.hbm, 85, rfl⟩
abbrev main_c_19 : Ref sig .tc := ⟨.hbm, 86, rfl⟩
abbrev main_v58 : Ref sig .tc := ⟨.hbm, 87, rfl⟩
abbrev main_v59 : Ref sig .tc := ⟨.hbm, 88, rfl⟩
abbrev main_c_20 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_21 : Ref sig .tc := ⟨.hbm, 93, rfl⟩
abbrev main_v63 : Ref sig .tc := ⟨.hbm, 94, rfl⟩
abbrev main_v64 : Ref sig .tc := ⟨.hbm, 95, rfl⟩
abbrev main_c_22 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_23 : Ref sig .tc := ⟨.hbm, 105, rfl⟩
abbrev main_v73 : Ref sig .tc := ⟨.hbm, 106, rfl⟩
abbrev main_cst_24 : Ref sig .tc := ⟨.hbm, 107, rfl⟩
abbrev main_v74 : Ref sig .tc := ⟨.hbm, 108, rfl⟩

abbrev nD : Nat := 1
abbrev τ : Topo := Topo.v7x

variable {F : FTy → Type} [FloatOps F]
-- ==== Proof.Consts.lean ====
/-
  The float words of the kernel and of the reference as real numbers, and the named constant's value.
-/
module

public import proofs.«01_k».proof.Defs
public import Idealize.ShloMosaic.Lib.IdealHost

@[expose] public section

noncomputable section

namespace Cert.Proof

open Idealize.ShloMosaic

/-- The weight α as the f32 word of 0.01 reads, and the complement `1 − α`. -/
def alphaR : ℝ := 10737418 / 1073741824
/-- The words of cos ½ and sin ½. -/
def cosR : ℝ := 14723392 / 16777216
def sinR : ℝ := 16086852 / 33554432

theorem ofBits_zero : Ideal.ofBits .f32 0x00000000#32 = ((0 : ℝ) : EReal) := by simp [Ideal.ofBits, Ideal.ieee]
theorem ofBits_one : Ideal.ofBits .f32 0x3F800000#32 = ((1 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem ofBits_alpha : Ideal.ofBits .f32 0x3C23D70A#32 = (alphaR : EReal) := by
  simp [Ideal.ofBits, Ideal.ieee, -EReal.coe_mul, alphaR]; norm_num
theorem ofBits_alpha_1024 : Ideal.ofBits .f32 0x3723D70A#32 = ((alphaR / 1024 : ℝ) : EReal) := by
  simp [Ideal.ofBits, Ideal.ieee, -EReal.coe_mul, alphaR]; norm_num
theorem ofBits_cos : Ideal.ofBits .f32 0x3F60A940#32 = (cosR : EReal) := by
  simp [Ideal.ofBits, Ideal.ieee, -EReal.coe_mul, cosR]; norm_num
theorem ofBits_sin : Ideal.ofBits .f32 0x3EF57744#32 = (sinR : EReal) := by
  simp [Ideal.ofBits, Ideal.ieee, -EReal.coe_mul, sinR]; norm_num

/-- The named constant is exactly `1 − α`. -/
theorem keep_eq : (531502203 / 536870912 : ℝ) = 1 - alphaR := by norm_num [alphaR]

/-- A finite sum of reals is the sum of them as extended reals. -/
theorem coe_sum {ι : Type} (s : Finset ι) (f : ι → ℝ) : ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

end Cert.Proof

end
-- ==== Proof.Inputs.lean ====
/-
  What the two preconditions say of the arrays: every label is a column; and, of cosines, every logit is a real
  number between −1 and 1.
-/
module

public import proofs.«01_k».proof.Defs
public import proofs.«01_k».proof.Proof.Gen.Pre_labels_in_range
public import proofs.«01_k».proof.Proof.Gen.Pre_cosines
public import proofs.«01_k».proof.Proof.Consts
public import Idealize.ShloMosaic.Lib.ReduceAll
public import Idealize.ShloMosaic.Lib.WordCmp

@[expose] public section

noncomputable section

namespace Cert.Proof

open Idealize.ShloMosaic

instance : Subsingleton (⟨0, ![]⟩ : Shape).Idx := ⟨fun _ _ => funext fun a => a.elim0⟩

/-- A label tested as both predicates test it, `0 ≤ l` and `l < 100000` read signed, is below 100000 read unsigned. -/
theorem label_lt {x : BitVec 32} (h : IntOp.andi (IntOp.cmpi .sge x 0#32) (IntOp.cmpi .slt x 100000#32) = 1#1) : x.toNat < 100000 := by
  have e := WordCmp.andi_sge_zero_slt_ofNat (w := 32) (k := 100000) (by decide) x
  have h' : BitVec.ofBool (decide (x.toNat < 100000)) = 1#1 := e.symm.trans h
  by_contra hn
  rw [decide_eq_false hn] at h'
  exact absurd h' (by decide)

/-- `labels_in_range` names a column with every label. -/
theorem labels_of_range {F : FTy → Type} [FloatOps F] {x : FVec F Pre_labels_in_range.S1024x100000 .f32} {l : IVec Pre_labels_in_range.S1024 32}
    (h : Pre_labels_in_range.fn x l = fun _ => 1#1) (j : Pre_labels_in_range.S1024.Idx) : (l j).toNat < 100000 :=
  label_lt (Host.reduce_andi_all _ _ _ _ (fun a => a.elim0) (congrFun h _) j)

/-- `cosines` does too. -/
theorem labels_of_cosines {F : FTy → Type} [FloatOps F] {x : FVec F Pre_cosines.S1024x100000 .f32} {l : IVec Pre_cosines.S1024 32}
    (h : Pre_cosines.fn x l = fun _ => 1#1) (j : Pre_cosines.S1024.Idx) : (l j).toNat < 100000 :=
  label_lt (Host.reduce_andi_all _ _ _ _ (fun a => a.elim0) (IntOp.andi_eq_one.1 (congrFun h fun a => a.elim0)).1 j)

/-- A logit tested as `cosines` tests it lies between −1 and 1. -/
theorem bounds_of_test {x : EReal} (h : IntOp.andi (Ideal.cmp .oge x (Ideal.ofBits .f32 0xBF800000#32)) (Ideal.cmp .ole x (Ideal.ofBits .f32 0x3F800000#32)) = 1#1) :
    ((-1 : ℝ) : EReal) ≤ x ∧ x ≤ ((1 : ℝ) : EReal) := by
  rw [ofBits_neg_one, ofBits_one] at h
  obtain ⟨h1, h2⟩ := IntOp.andi_eq_one.1 h
  constructor
  · by_contra hn
    have e : BitVec.ofBool (decide (((-1 : ℝ) : EReal) ≤ x)) = 1#1 := h1
    rw [decide_eq_false hn] at e
    exact absurd e (by decide)
  · by_contra hn
    have e : BitVec.ofBool (decide (x ≤ ((1 : ℝ) : EReal))) = 1#1 := h2
    rw [decide_eq_false hn] at e
    exact absurd e (by decide)

/-- Under `cosines` every logit is a real number, and between −1 and 1. -/
theorem real_of_cosines {x : FVec Ideal Pre_cosines.S1024x100000 .f32} {l : IVec Pre_cosines.S1024 32}
    (h : Pre_cosines.fn x l = fun _ => 1#1) (i : Pre_cosines.S1024x100000.Idx) :
    ∃ r : ℝ, (x i : EReal) = (r : EReal) ∧ -1 ≤ r ∧ r ≤ 1 := by
  have hb : ((-1 : ℝ) : EReal) ≤ x i ∧ x i ≤ ((1 : ℝ) : EReal) :=
    bounds_of_test (Host.reduce_andi_all _ _ _ _ (fun a => a.elim0) (IntOp.andi_eq_one.1 (congrFun h fun a => a.elim0)).2 i)
  have ht : (x i : EReal) ≠ ⊤ := fun e => absurd (e ▸ hb.2) (not_le.2 (EReal.coe_lt_top 1))
  have hbot : (x i : EReal) ≠ ⊥ := fun e => absurd (e ▸ hb.1) (not_le.2 (EReal.bot_lt_coe (-1)))
  refine ⟨EReal.toReal (x i), (EReal.coe_toReal ht hbot).symm, ?_, ?_⟩
  · exact EReal.coe_le_coe_iff.1 ((EReal.coe_toReal ht hbot).symm ▸ hb.1)
  · exact EReal.coe_le_coe_iff.1 ((EReal.coe_toReal ht hbot).symm ▸ hb.2)

end Cert.Proof

end
-- ==== Proof.Kernel.Setup.lean ====
/-
  The kernel's launch set-up: the program as the SparseCore launch theorem sees it, the certificate's resource
  algebra (the handshakes' rounds, the TensorCore pipeline's rounds, the transfers' counters), the buffers by name, and
  the value the SparseCore call computes.
-/
module

public import proofs.«01_k».proof.Proof.Gen.Kernel.Skeleton
public import proofs.«01_k».proof.Proof.Gen.Kernel.Launch
public import proofs.«01_k».proof.Proof.Gen.Kernel.Points
public import Idealize.ShloMosaic.Lib.SparseCore.Quiescent
public import Idealize.ShloMosaic.Lib.SparseCore.Stream
public import Idealize.ShloMosaic.Lib.SparseCore.FromWhole
public import Idealize.ShloMosaic.Lib.ShareLeaves
public import Idealize.ShloMosaic.Lib.Pipeline.Regions
public import Idealize.ShloMosaic.Lib.Tactic
public import Idealize.ShloMosaic.PureOps.Ideal

@[expose] public section

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero [FloatOps F] : (K (F := F)).nSub 0 = 16 := rfl
theorem nCore_zero [FloatOps F] : (K (F := F)).nCore 0 = 2 := rfl

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × (UR sig nD τ × Counters)

local notation "𝕄" => MT nD τ sig (HIx 1) (Elt F) ℕ UU ℕ

/-- The handshakes' rounds: the left component. -/
abbrev EH : Emb UH (MT nD τ sig (HIx 1) (Elt F) ℕ UU ℕ) := embL
/-- The pipeline's rounds: the middle component. -/
def EP : Emb (UR sig nD τ) (MT nD τ sig (HIx 1) (Elt F) ℕ UU ℕ) :=
  (Emb.inl : Emb (UR sig nD τ) (UR sig nD τ × Counters)).trans embR
instance EP_landsIn : (EP (F := F)).LandsIn (upEmb : UEmb _ 𝕄) := by unfold EP; infer_instance

/-! ## The buffers -/

abbrev aLoc (d : Dev nD) : Loc nD τ sig := (SparseCore.T d).loc main_arg0
abbrev lLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1

/-! ## What the SparseCore call computes -/

/-- Row `j`'s label's place in the flattened matrix of logits. -/
def flatIx (j : ℕ) (l : BitVec 32) : S102400000.Idx
  | ⟨0, _⟩ => (⟨(j * 100000 + l.toNat) % 102400000, Nat.mod_lt _ (by norm_num)⟩ : Fin 102400000)
  | ⟨_ + 1, h⟩ => absurd h (Nat.not_lt.2 (Nat.le_add_left _ _))

/-- The gathered logits: row `j`'s entry at its label, out of the flattened matrix `x`. -/
def gathered (x : S102400000.Idx → Elt F .f32) (l : S1024.Idx → Elt F .i32) : S1024.Idx → Elt F .f32 :=
  fun j => x (flatIx (j 0).val (l j))

end Cert.Proof.Kernel

end
-- ==== Proof.KernelIdeal.Setup.lean ====
/-
  The idealized kernel's launch set-up: the program as the SparseCore launch theorem sees it, the certificate's resource
  algebra (the handshakes' rounds, the TensorCore pipeline's rounds, the transfers' counters), the buffers by name, and
  the value the SparseCore call computes.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Stream
public import Idealize.ShloMosaic.Lib.SparseCore.FromWhole
public import Idealize.ShloMosaic.Lib.ShareLeaves
public import Idealize.ShloMosaic.Lib.Pipeline.Regions
public import Idealize.ShloMosaic.Lib.Tactic

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] [Named F] : Labels := Pipeline.Sig Λ₀ (Fin 1) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero [FloatOps F] [Named F] : (K (F := F)).nSub 0 = 16 := rfl
theorem nCore_zero [FloatOps F] [Named F] : (K (F := F)).nCore 0 = 2 := rfl

theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × (UR sig nD τ × Counters)

local notation "𝕄" => MT nD τ sig (HIx 1) (Elt F) ℕ UU ℕ

/-- The handshakes' rounds: the left component. -/
abbrev EH : Emb UH (MT nD τ sig (HIx 1) (Elt F) ℕ UU ℕ) := embL
/-- The pipeline's rounds: the middle component. -/
def EP : Emb (UR sig nD τ) (MT nD τ sig (HIx 1) (Elt F) ℕ UU ℕ) :=
  (Emb.inl : Emb (UR sig nD τ) (UR sig nD τ × Counters)).trans embR
instance EP_landsIn : (EP (F := F)).LandsIn (upEmb : UEmb _ 𝕄) := by unfold EP; infer_instance

/-! ## The buffers -/

abbrev aLoc (d : Dev nD) : Loc nD τ sig := (SparseCore.T d).loc main_arg0
abbrev lLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1

/-! ## What the SparseCore call computes -/

/-- Row `j`'s label's place in the flattened matrix of logits. -/
def flatIx (j : ℕ) (l : BitVec 32) : S102400000.Idx
  | ⟨0, _⟩ => (⟨(j * 100000 + l.toNat) % 102400000, Nat.mod_lt _ (by norm_num)⟩ : Fin 102400000)
  | ⟨_ + 1, h⟩ => absurd h (Nat.not_lt.2 (Nat.le_add_left _ _))

/-- The gathered logits: row `j`'s entry at its label, out of the flattened matrix `x`. -/
def gathered (x : S102400000.Idx → Elt F .f32) (l : S1024.Idx → Elt F .i32) : S1024.Idx → Elt F .f32 :=
  fun j => x (flatIx (j 0).val (l j))

end Cert.Proof.KernelIdeal

end
-- ==== Proof.KernelIdeal.Gather.lean ====
/-
  The idealized kernel's SparseCore call: the task of one vector subcore, at a symbolic pair of SparseCore and subcore,
  run by the executor with its value; the tasks' obligation; the split of the call's operands among the tasks.
-/
module

public import proofs.«01_k».proof.Proof.KernelIdeal.Setup
public import Idealize.ShloMosaic.Lib.Pointwise.Reshape

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S102400000 EltTy.f32)
local notation "lV" => (Memref.whole Cert.KernelIdeal.main_arg1_scv : Memref Cert.KernelIdeal.sig Kind.scVector Space.hbm Cert.KernelIdeal.S1024 EltTy.i32)
local notation "oV" => (Memref.whole Cert.KernelIdeal.main_v1_scv : Memref Cert.KernelIdeal.sig Kind.scVector Space.hbm Cert.KernelIdeal.S1024 EltTy.f32)
local notation "sV" => (Memref.whole Cert.KernelIdeal.cc0_scratch0 : Memref Cert.KernelIdeal.sig Kind.scVector Space.vmem Cert.KernelIdeal.S32 EltTy.i32)
local notation "iV" => (Memref.whole Cert.KernelIdeal.cc0_scratch1 : Memref Cert.KernelIdeal.sig Kind.scVector Space.vmem Cert.KernelIdeal.S32 EltTy.i32)
local notation "rV" => (Memref.whole Cert.KernelIdeal.cc0_scratch2 : Memref Cert.KernelIdeal.sig Kind.scVector Space.vmem Cert.KernelIdeal.S32 EltTy.f32)

/-! ## The rows of the tasks: 32 blocks of 32 -/

theorem div32 : 32 ∣ S1024.size 0 := ⟨32, rfl⟩
/-- Block `w` of the 1024 rows. -/
abbrev row (w : Fin 32) : Rect S1024 := Rect.part (s := S1024) (a₀ := 0) div32 w
abbrev rowSet (w : Fin 32) : Finset S1024.Idx := (row w).set
/-- The task of subcore `i` on SparseCore `c` serves block `2 i + c`. -/
def wid (c : Fin 2) (i : Fin 16) : Fin 32 := finProdFinEquiv (i, c)
theorem wid_val (c : Fin 2) (i : Fin 16) : (wid c i).val = c.val + 2 * i.val := rfl

/-- Task `w`'s share of the flattened logits. -/
abbrev xq (w : Fin 32) : PosShare TreeShare := ShareLeaves.leaf 5 fullShare w

variable (l : (d : Dev nD) → Buf (Elt F) (lLoc d)) (x : (d : Dev nD) → Buf (Elt F) (xLoc d)) (o : (d : Dev nD) → Buf (Elt F) (oLoc d))

/-- What the proof asks of the labels: each a column of the logits. -/
def LabelsOK : Prop := ∀ (d : Dev nD) (j : S1024.Idx), (l d j : BitVec 32).toNat < 100000

/-- The gathered logits on device `d`. -/
def gat (d : Dev nD) : Buf (Elt F) (oLoc d) := gathered (x d) (l d)

abbrev lRowPts (d : Dev nD) (w : Fin 32) : sProp 𝕄 := lLoc d ↦[rowSet w]{fullShare} l d
abbrev xShPts (d : Dev nD) (w : Fin 32) : sProp 𝕄 := xLoc d ↦{xq w} x d
abbrev oRowPts (d : Dev nD) (w : Fin 32) (f : Buf (Elt F) (oLoc d)) : sProp 𝕄 := oLoc d ↦[rowSet w]{fullShare} f

/-- What a task takes: its block of the labels, its share of the logits, its block of the result, -/
abbrev goPts (d : Dev nD) (w : Fin 32) : sProp 𝕄 := iprop(lRowPts l d w ∗ xShPts x d w ∗ oRowPts d w (o d))
/-- and what it brings back: the same with the result's block at the gathered logits. -/
abbrev tdPts (d : Dev nD) (w : Fin 32) : sProp 𝕄 := iprop(lRowPts l d w ∗ xShPts x d w ∗ oRowPts d w (gat l x d))

variable [FloatOps F] [Named F]

/-- The one call's payments: each SparseCore takes what its sixteen tasks take and brings back what they bring back. -/
def P : (K (F := F)).Pay (nD := nD) (Val := Elt F) (Name := ℕ) (U := UU) where
  st := fun q d c => match q with | 0 => bigSep Finset.univ fun i : Fin 16 => goPts l x o d (wid (Fin.cast nCore_zero c) i)
  dn := fun q d c => match q with | 0 => bigSep Finset.univ fun i : Fin 16 => tdPts l x d (wid (Fin.cast nCore_zero c) i)
  go := fun q d c i => match q with | 0 => goPts l x o d (wid (Fin.cast nCore_zero c) (Fin.cast nSub_zero i))
  td := fun q d c i => match q with | 0 => tdPts l x d (wid (Fin.cast nCore_zero c) (Fin.cast nSub_zero i))
  x := fun _ _ => iprop(emp)

instance P_storable : (P (F := F) l x o).IsStorable where
  st q d c := match q with
    | 0 => (inferInstance : BI.Storable (upEmb : UEmb _ 𝕄) (bigSep Finset.univ fun i : Fin 16 => goPts l x o d (wid (Fin.cast nCore_zero c) i)))
  dn q d c := match q with
    | 0 => (inferInstance : BI.Storable (upEmb : UEmb _ 𝕄) (bigSep Finset.univ fun i : Fin 16 => tdPts l x d (wid (Fin.cast nCore_zero c) i)))
  go q d c i := match q with
    | 0 => (inferInstance : BI.Storable (upEmb : UEmb _ 𝕄) (goPts l x o d (wid (Fin.cast nCore_zero c) (Fin.cast nSub_zero i))))
  td q d c i := match q with
    | 0 => (inferInstance : BI.Storable (upEmb : UEmb _ 𝕄) (tdPts l x d (wid (Fin.cast nCore_zero c) (Fin.cast nSub_zero i))))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] [Named F] in
theorem bound_zero : grid0.bound 0 = 2 := rfl
omit [FloatOps F] [Named F] in
theorem bound_one : grid0.bound 1 = 16 := rfl
abbrev wL (L : grid0.Coords) : Fin 32 := wid (Fin.cast bound_zero (L 0)) (Fin.cast bound_one (L 1))

abbrev rowK (L : grid0.Coords) : Rect S1024 := Rect.unit (s := S1024) (k0_off1 L) S32.size (k0_off1_inb L)
/-- The task's block of the labels and of the result, and all of the flattened logits, as the task addresses them. -/
abbrev lRowK (L : grid0.Coords) : Memref sig .scVector .hbm S32 .i32 := (lV).slice (rowK L) (fun _ => rfl)
abbrev oRowK (L : grid0.Coords) : Memref sig .scVector .hbm S32 .f32 := (oV).slice (rowK L) (fun _ => rfl)
abbrev xAllK : Memref sig .scVector .hbm S102400000 .f32 := (xV).slice (Rect.unit (s := S102400000) ![0] S102400000.size inb_S102400000_S102400000_0) (fun _ => rfl)

omit [FloatOps F] [Named F] in
theorem rowK_eq : rowK L = row (wL L) := by
  unfold rowK row Rect.part Rect.block
  congr 1 <;> funext a
  · rw [k0_off1_eq]
    match a with
    | 0 =>
      simp only [Shape.partIx, Shape.partSize, wid_val, Fin.val_cast]
      simp
      omega
  · match a with
    | 0 => simp [Shape.partSize]

omit [FloatOps F] [Named F] in
theorem set_lRowK : (lRowK L).view.set = rowSet (wL L) := by
  show ((lV).view.slice (rowK L)).set = (row (wL L)).set
  rw [rowK_eq, View.set_slice]; exact Finset.map_refl
omit [FloatOps F] [Named F] in
theorem set_oRowK : (oRowK L).view.set = rowSet (wL L) := by
  show ((oV).view.slice (rowK L)).set = (row (wL L)).set
  rw [rowK_eq, View.set_slice]; exact Finset.map_refl

omit [FloatOps F] [Named F] in
theorem pts_lRowK (f : Buf (Elt F) (lLoc d)) :
    ((lRowK L).view.loc (V d (cV L) (jV L)) ↦[(lRowK L).view.set]{fullShare} f : sProp 𝕄) = lLoc d ↦[rowSet (wL L)]{fullShare} f := by
  rw [set_lRowK]
omit [FloatOps F] [Named F] in
theorem pts_oRowK (f : Buf (Elt F) (oLoc d)) :
    ((oRowK L).view.loc (V d (cV L) (jV L)) ↦[(oRowK L).view.set]{fullShare} f : sProp 𝕄) = oLoc d ↦[rowSet (wL L)]{fullShare} f := by
  rw [set_oRowK]
omit [FloatOps F] [Named F] in
theorem pts_xV (q : PosShare TreeShare) (f : Buf (Elt F) (xLoc d)) :
    ((xAllK).view.loc (V d (cV L) (jV L)) ↦{q} f : sProp 𝕄) = xLoc d ↦{q} f := rfl
omit [FloatOps F] [Named F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] [Named F] in
theorem pts_iV (f : Buf (Elt F) ((V d (cV L) (jV L)).loc cc0_scratch1)) :
    ((iV).view.loc (V d (cV L) (jV L)) ↦{fullShare} f : sProp 𝕄) = (V d (cV L) (jV L)).loc cc0_scratch1 ↦{fullShare} f := rfl
omit [FloatOps F] [Named F] in
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] [Named F] in
/-- The task's three semaphores are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] [Named F] in
/-- The three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-! ### The list of places the task builds -/

/-- The place word of row `y` of the task's block whose label is `v`. -/
abbrev word (y : ℕ) (v : BitVec 32) : BitVec 32 := BitVec.ofNat 32 ((((L 1).val * 2 + (L 0).val) * 32 + y) * 100000) + v

omit [FloatOps F] [Named F] in
theorem pay1_apply (v : Vec F S16 .i32) (y : S16.Idx) : k0_pay1 L v y = word L (y 0).val (v y) := by
  have h0 := (L 0).isLt; have h1 := (L 1).isLt; have hy := (y 0).isLt
  simp only [k0_pay1, shapeCast_id, addi, muli, broadcast, iota, Scalar.addi, Scalar.muli, IntOp.addi, IntOp.muli, List.foldl, word]
  refine congrArg (· + v y) (BitVec.eq_of_toNat_eq ?_)
  simp [BitVec.toNat_ofNat, BitVec.toNat_add, BitVec.toNat_mul]

omit [FloatOps F] [Named F] in
theorem pay2_apply (v : Vec F S16 .i32) (y : S16.Idx) : k0_pay2 L v y = word L (16 + (y 0).val) (v y) := by
  simp only [k0_pay2, shapeCast_id, addi, muli, broadcast, iota, Scalar.addi, Scalar.muli, IntOp.addi, IntOp.muli, List.foldl, word]
  refine congrArg (· + v y) (BitVec.eq_of_toNat_eq ?_)
  simp [BitVec.toNat_ofNat, BitVec.toNat_add, BitVec.toNat_mul, Nat.add_assoc]

omit [FloatOps F] [Named F] in
/-- After the two stores the list holds each row's place word. -/
theorem list_read (lab : S32.Idx → Elt F .i32) (fi : Buf (Elt F) ((V d (cV L) (jV L)).loc cc0_scratch1)) (p1 p2 : S16.Idx → Elt F .i32)
    (h1 : ∀ y : S16.Idx, p1 y = lab ((Rect.unit (s := S32) ![0] S16.size inb_S32_S16_0).emb y))
    (h2 : ∀ y : S16.Idx, p2 y = lab ((Rect.unit (s := S32) ![16] S16.size inb_S32_S16_16).emb y)) (y : S32.Idx) :
    (iV).view.read (Elt F) ((iV).view.writes (Elt F) fi
      [⟨Rect.unit ![16] S16.size inb_S32_S16_16, k0_pay2 L p2⟩, ⟨Rect.unit ![0] S16.size inb_S32_S16_0, k0_pay1 L p1⟩]) y
      = word L (y 0).val (lab y) := by
  refine View.read_writes_apply_of_pieces (iV).view fi (fun y => word L (y 0).val (lab y)) _ ?_ y ?_
  · intro p hp
    simp only [List.mem_cons, List.mem_nil_iff, or_false] at hp
    rcases hp with rfl | rfl
    · intro x
      refine (pay2_apply L p2 x).trans ?_
      have e : (((Rect.unit (s := S32) ![16] S16.size inb_S32_S16_16).emb x) 0).val = 16 + (x 0).val := by
        rw [Rect.emb_apply]; exact congrArg (16 + ·) (Nat.one_mul _)
      rw [h2, ← e]
    · intro x
      refine (pay1_apply L p1 x).trans ?_
      have e : (((Rect.unit (s := S32) ![0] S16.size inb_S32_S16_0).emb x) 0).val = (x 0).val := by
        rw [Rect.emb_apply]; exact (congrArg (0 + ·) (Nat.one_mul _)).trans (Nat.zero_add _)
      rw [h1, ← e]
  · have hy : (y 0).val < 32 := (y 0).isLt
    by_cases h : (y 0).val < 16
    · refine ⟨_, List.mem_cons_of_mem _ List.mem_cons_self, (Rect.mem_set_unit (inb := inb_S32_S16_0)).mpr fun a => ?_⟩
      match a with
      | 0 => exact ⟨Nat.zero_le _, by simpa using h⟩
    · refine ⟨_, List.mem_cons_self, (Rect.mem_set_unit (inb := inb_S32_S16_16)).mpr fun a => ?_⟩
      match a with
      | 0 => exact ⟨by simpa using Nat.le_of_not_lt h, by simpa using hy⟩

omit [FloatOps F] [Named F] in
/-- A place word with its label in range is its own value, inside the flattened logits. -/
theorem word_toNat {y : ℕ} (hy : y < 32) {v : BitVec 32} (hv : v.toNat < 100000) :
    (word L y v).toNat = (((L 1).val * 2 + (L 0).val) * 32 + y) * 100000 + v.toNat
      ∧ (((L 1).val * 2 + (L 0).val) * 32 + y) * 100000 + v.toNat < 102400000 := by
  have h0 : (L 0).val < 2 := (L 0).isLt
  have h1 : (L 1).val < 16 := (L 1).isLt
  rw [word, BitVec.toNat_add, BitVec.toNat_ofNat]
  omega

omit [FloatOps F] [Named F] in
/-- Row `z` of the task's block, as a row of the whole. -/
theorem rowK_emb (z : S32.Idx) : ((rowK L).emb z 0).val = ((L 1).val * 2 + (L 0).val) * 32 + (z 0).val := by
  rw [Rect.emb_apply]
  show k0_off1 L 0 + 1 * (z 0).val = _
  rw [k0_off1_eq, Nat.one_mul]
  show 64 * (L 1).val + 32 * (L 0).val + _ = _
  omega

omit [FloatOps F] [Named F] in
/-- The rows the stream brings in are the gathered logits at the task's block. -/
theorem payload_eq (hpre : LabelsOK l) (idx : S32.Idx → Elt F .i32) (hidx : ∀ y, idx y = word L (y 0).val (l d ((rowK L).emb y)))
    (hn : S32.numel = S32.size gathers_S102400000_S32.axis') (hin : ∀ y, (idx y).toNat < S102400000.size gathers_S102400000_S32.axis)
    (g : S102400000.Idx → Elt F .f32) (hg : g = x d) (z : S32.Idx) :
    SparseCore.gatherPayload gathers_S102400000_S32 g (SparseCore.rows idx hn hin) z = gat l x d ((rowK L).emb z) := by
  subst hg
  unfold SparseCore.gatherPayload gat gathered
  congr 1
  have hz : S32.rowMajor.symm ((z gathers_S102400000_S32.axis').cast hn.symm) = z := by
    rw [Equiv.symm_apply_eq]
    exact Fin.ext (Shape.rowMajor_val_one (d := ![32]) z).symm
  funext a
  match a with
  | 0 =>
    refine Fin.ext ?_
    refine (congrArg Fin.val (Shape.Gathers.idx_axis gathers_S102400000_S32 _ z)).trans ?_
    have hw := word_toNat L (y := (z 0).val) (z 0).isLt (hpre d ((rowK L).emb z))
    show (idx (S32.rowMajor.symm ((z gathers_S102400000_S32.axis').cast hn.symm))).toNat = _
    rw [hz, hidx, hw.1]
    show _ = (((rowK L).emb z 0).val * 100000 + _) % 102400000
    rw [rowK_emb, Nat.mod_eq_of_lt hw.2]
set_option maxHeartbeats 4000000 in
/-- The task on vector subcore `(L 0, L 1)` of device `d`: its block of the labels fetched, the list of places built from
    it, the logits at those places gathered and written out — the result's block at the gathered logits. -/
theorem tile_body (hF : (K (F := F)).Facts) (hpre : LabelsOK l) (O : CellTallies nD τ sig (HIx 1)) (W : Waits sig (HIx 1)) (hO : ∀ g, O g none = 0) :
    iprop(levAts (K (F := F)).L (K (F := F)).lev ∗ emp
        ∗ goPts l x o d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L xV (Memref.isWhole_whole _) lV (Memref.isWhole_whole _) oV (Memref.isWhole_whole _)
            sV (Memref.isWhole_whole _) iV (Memref.isWhole_whole _) rV (Memref.isWhole_whole _) cc0_scratch3 cc0_scoped0 cc0_scoped1)
          fun _ => iprop(tdPts l x d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  iintro ⟨#Hlv, -, ⟨Hl, Hx, Ho⟩, ⟨⟨%fs, Hs⟩, ⟨%fi, Hi⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lRowK (F := F) d L _).symm) $$ Hl
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hi' := (Entails.of_eq (pts_iV (F := F) d L _).symm) $$ Hi
  ihave Hr' := (Entails.of_eq (pts_rV (F := F) d L _).symm) $$ Hr
  sl_exec
  generalize hfo : View.writes (iV).view (Elt F) (iV).view.junk (tile_body.sl.Hi'_2 l d L fs) = fo
  have hread : ∀ y, (iV).view.read (Elt F) fo y = word L (y 0).val (l d ((rowK L).emb y)) := by
    intro y; rw [← hfo]; unfold tile_body.sl.Hi'_2
    refine list_read d L (fun y => l d ((rowK L).emb y)) _ _ _ ?_ ?_ y
    all_goals
      intro y
      rw [View.write_whole_univ]
      rfl
  have hin : ∀ y, ((iV).view.read (Elt F) fo y).toNat < S102400000.size gathers_S102400000_S32.axis := fun y => by
    rw [hread]
    have hw := word_toNat L (y := (y 0).val) (y 0).isLt (hpre d ((rowK L).emb y))
    exact hw.1 ▸ hw.2
  have hN : ∀ h : S102400000.Gathers 0 S32, ∑ j, ((rV).slice (S32.rowRect h.axis' j) (S32.stride_rowRect h.axis' j)).view.dmaCredit
      = (rV).view.dmaCredit := by decide
  iapply (SparseCore.wp_gatherFromWhole countersEmb 𝒱₀ (V d (cV L) (jV L)) none (hg := gathers_S102400000_S32) (default : HIx 1)
      (rV).view.dmaCredit (hN _) (by decide) hin) $$ [Hx' Hr' Hi' HsemA]
  · isplitl [Hx']; · iexact Hx'
    isplitl [Hr']; · iexact Hr'
    isplitl [Hi']; · iexact Hi'
    iexact HsemA
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch3.sem)) $$ Hmw
  iintro ⟨⟨Hr', Hx', Hi'⟩, HsemA, HO⟩
  sl_exec
  sl_step
  have hout : ∀ j ∈ (oRowK L).view.set, (oRowK L).view.writes (Elt F) (o d) [⟨Rect.whole S32, tile_body.sl.dma0_1 x d L fr fo hin⟩] j = gat l x d j := by
    intro j hj
    obtain ⟨z, -, rfl⟩ := Finset.mem_map.mp hj
    have e1 := View.read_writes_cons_emb (Val := Elt F) (oRowK L).view (o d) (Rect.whole S32) (tile_body.sl.dma0_1 x d L fr fo hin) [] z
    rw [Rect.emb_whole_apply] at e1
    refine Eq.trans e1 ?_
    unfold tile_body.sl.dma0_1
    refine Eq.trans ?_ (payload_eq l x d L hpre _ hread (by decide) hin (x d) rfl z)
    have e2 : View.read (Elt F) ((xV).slice (Rect.unit ![0] S102400000.size inb_S102400000_S102400000_0) (fun _ => rfl)).view (x d) = x d := by
      funext y
      refine (View.read_apply ..).trans ?_
      refine congrArg (x d) (funext fun a => Fin.ext ?_)
      show (![0] : Fin 1 → ℕ) a + 1 * (y a).val = (y a).val
      match a with
      | 0 => exact (congrArg (0 + ·) (Nat.one_mul _)).trans (Nat.zero_add _)
    rw [View.write_whole_univ]
    refine congrFun (congrArg (fun g => SparseCore.gatherPayload gathers_S102400000_S32 g _) e2) z
  isplitl [Hl' Hx' Ho']
  · isplitl [Hl']; · iapply (Entails.of_eq (pts_lRowK (F := F) d L _)); iexact Hl'
    isplitl [Hx']; · iexact Hx'
    iapply (Entails.of_eq (pts_oRowK (F := F) d L _))
    iapply (Entails.of_eq (pointsTo_congr hout)); iexact Ho'
  isplitl [Hs' Hi' Hr' Hbufs]
  · isplitl [Hs']; · iexists _; iexact Hs'
    isplitl [Hi']; · iexists _; iexact Hi'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KernelIdeal

end
-- ==== Proof.KernelIdeal.GatherObl.lean ====
/-
  The idealized kernel's SparseCore call as the launch theorem wants it: the tasks' obligation, the split of one
  SparseCore's operands among its tasks, and the whole operands as the tasks' blocks and shares.
-/
module

public import proofs.«01_k».proof.Proof.KernelIdeal.Gather
public import Idealize.ShloMosaic.Lib.Pointwise.Reshape

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S102400000 EltTy.f32)
local notation "lV" => (Memref.whole Cert.KernelIdeal.main_arg1_scv : Memref Cert.KernelIdeal.sig Kind.scVector Space.hbm Cert.KernelIdeal.S1024 EltTy.i32)
local notation "oV" => (Memref.whole Cert.KernelIdeal.main_v1_scv : Memref Cert.KernelIdeal.sig Kind.scVector Space.hbm Cert.KernelIdeal.S1024 EltTy.f32)
local notation "sV" => (Memref.whole Cert.KernelIdeal.cc0_scratch0 : Memref Cert.KernelIdeal.sig Kind.scVector Space.vmem Cert.KernelIdeal.S32 EltTy.i32)
local notation "iV" => (Memref.whole Cert.KernelIdeal.cc0_scratch1 : Memref Cert.KernelIdeal.sig Kind.scVector Space.vmem Cert.KernelIdeal.S32 EltTy.i32)
local notation "rV" => (Memref.whole Cert.KernelIdeal.cc0_scratch2 : Memref Cert.KernelIdeal.sig Kind.scVector Space.vmem Cert.KernelIdeal.S32 EltTy.f32)

variable (l : (d : Dev nD) → Buf (Elt F) (lLoc d)) (x : (d : Dev nD) → Buf (Elt F) (xLoc d)) (o : (d : Dev nD) → Buf (Elt F) (oLoc d))
variable [FloatOps F] [Named F]

/-! ## The obligation -/

/-- The grid's coordinates of subcore `s` on SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          xV (Memref.isWhole_whole _) lV (Memref.isWhole_whole _) oV (Memref.isWhole_whole _)
            sV (Memref.isWhole_whole _) iV (Memref.isWhole_whole _) rV (Memref.isWhole_whole _) cc0_scratch3 cc0_scoped0 cc0_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets its obligation. -/
theorem tileObl (hF : (K (F := F)).Facts) (hpre : LabelsOK l) : (K (F := F)).TileObl (D (F := F)) 𝒱 (P l x o) v₀ 0 := by
  intro d c i O W hO _ _
  simp only [show (P l x o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body l x o d (coordsV ⟨_, hci.1⟩ ⟨_, hci.2⟩) hF hpre O W hO).trans (wp_mono frame _ _ fun _ => obl_post)

/-! ## The split among one SparseCore's tasks -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What a SparseCore takes is what its tasks take, and what they bring back is what it brings back. -/
theorem vecSplit : (K (F := F)).VecSplit' (P l x o) 0 := by
  intro d c
  show iprop(bigSep Finset.univ fun i : Fin 16 => goPts l x o d (wid (Fin.cast nCore_zero c) i)) ⊢ |={Set.univ}=> iprop(
      (bigSep Finset.univ fun i : Fin ((K (F := F)).nSub 0) => goPts l x o d (wid (Fin.cast nCore_zero c) (Fin.cast nSub_zero i)))
      ∗ ((bigSep Finset.univ fun i : Fin ((K (F := F)).nSub 0) => tdPts l x d (wid (Fin.cast nCore_zero c) (Fin.cast nSub_zero i)))
          -∗ bigSep Finset.univ fun i : Fin 16 => tdPts l x d (wid (Fin.cast nCore_zero c) i)))
  rw [bigSep_tasks (fun i => goPts l x o d (wid (Fin.cast nCore_zero c) i)),
    bigSep_tasks (fun i => tdPts l x d (wid (Fin.cast nCore_zero c) i))]
  iintro H; imodintro
  isplitl [H]; · iexact H
  iintro H; iexact H

/-! ## The whole operands are the tasks' blocks and shares -/

omit [FloatOps F] [Named F] in
theorem rows_disjoint : ∀ i ∈ (Finset.univ : Finset (Fin 32)), ∀ j ∈ (Finset.univ : Finset (Fin 32)), i ≠ j → Disjoint (rowSet i) (rowSet j) :=
  fun _ _ _ _ h => Rect.part_disjoint div32 h
omit [FloatOps F] [Named F] in
theorem rows_cover : (Finset.univ : Finset (Fin 32)).biUnion rowSet = Finset.univ := Rect.biUnion_part div32

omit [FloatOps F] [Named F] in
theorem lPts_rows (d : Dev nD) (f : Buf (Elt F) (lLoc d)) :
    (lLoc d ↦{fullShare} f : sProp 𝕄) = bigSep Finset.univ fun w : Fin 32 => lLoc d ↦[rowSet w]{fullShare} f := by
  rw [← pointsTo_biUnion Finset.univ (ℓ := lLoc d) rowSet rows_disjoint, rows_cover]; try rfl
omit [FloatOps F] [Named F] in
theorem oPts_rows (d : Dev nD) (f : Buf (Elt F) (oLoc d)) :
    (oLoc d ↦{fullShare} f : sProp 𝕄) = bigSep Finset.univ fun w : Fin 32 => oLoc d ↦[rowSet w]{fullShare} f := by
  rw [← pointsTo_biUnion Finset.univ (ℓ := oLoc d) rowSet rows_disjoint, rows_cover]; try rfl
omit [FloatOps F] [Named F] in
theorem xPts_shares (d : Dev nD) (f : Buf (Elt F) (xLoc d)) :
    (xLoc d ↦{fullShare} f : sProp 𝕄) = bigSep Finset.univ fun w : Fin 32 => xLoc d ↦{xq w} f :=
  ShareLeaves.pointsTo_leaves Finset.univ f 5 fullShare

omit [FloatOps F] [Named F] in
/-- The tasks of both SparseCores together are the 32 blocks. -/
theorem bigSep_wid (Φ : Fin 32 → sProp 𝕄) :
    (bigSep Finset.univ fun c : Fin 2 => bigSep Finset.univ fun i : Fin 16 => Φ (wid c i)) = bigSep Finset.univ Φ := by
  rw [bigSep_univ_equiv ((Equiv.prodComm (Fin 2) (Fin 16)).trans finProdFinEquiv) Φ, bigSep_univ_prod]; rfl

/-- What the call takes: the labels, the flattened logits and the result, whole; -/
theorem st0_eq (d : Dev nD) : (bigSep Finset.univ fun c : Fin ((K (F := F)).nCore 0) => (P l x o).st 0 d c)
    = iprop((lLoc d ↦{fullShare} l d) ∗ (xLoc d ↦{fullShare} x d) ∗ oLoc d ↦{fullShare} o d) := by
  refine (bigSep_cores fun c => bigSep Finset.univ fun i : Fin 16 => goPts l x o d (wid c i)).trans ?_
  rw [bigSep_wid, bigSep_sep', bigSep_sep', ← lPts_rows, ← xPts_shares, ← oPts_rows]
/-- and what it brings back: the same, the result at the gathered logits. -/
theorem dn0_eq (d : Dev nD) : (bigSep Finset.univ fun c : Fin ((K (F := F)).nCore 0) => (P l x o).dn 0 d c)
    = iprop((lLoc d ↦{fullShare} l d) ∗ (xLoc d ↦{fullShare} x d) ∗ oLoc d ↦{fullShare} gat l x d) := by
  refine (bigSep_cores fun c => bigSep Finset.univ fun i : Fin 16 => tdPts l x d (wid c i)).trans ?_
  rw [bigSep_wid, bigSep_sep', bigSep_sep', ← lPts_rows, ← xPts_shares, ← oPts_rows]

end Cert.Proof.KernelIdeal

end
-- ==== Proof.KernelIdeal.Sweep.lean ====
/-
  The idealized kernel's TensorCore call: what one point of the sweep does to what it holds, run by the executor on any
  five memrefs.
-/
module

public import proofs.«01_k».proof.Proof.KernelIdeal.Setup
public import proofs.«01_k».proof.Proof.Gen.KernelIdeal.Skeleton
public import proofs.«01_k».proof.Proof.Gen.KernelIdeal.Points
public import Idealize.ShloMosaic.Lib.VecWindow
public import Idealize.ShloMosaic.Lib.Tactic

@[expose] public section

noncomputable section

namespace Cert.Proof.KernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## One point of the sweep -/

/-- The printed tests of the column coordinate: the first block of columns, a later one. -/
abbrev firstCol (i : grid1.Coords) : Prop := Scalar.cmpi .ne (Scalar.extui (Scalar.cmpi .eq (BitVec.ofNat 32 (i 1).val) 0#32) : BitVec 32) 0#32 = 1#1
abbrev laterCol (i : grid1.Coords) : Prop := Scalar.cmpi .ne (Scalar.extui (Scalar.cmpi .sgt (BitVec.ofNat 32 (i 1).val) 0#32) : BitVec 32) 0#32 = 1#1

omit [FloatOps F] [Named F] in
theorem firstCol_iff : ∀ i : grid1.Coords, firstCol i ↔ (i 1).val = 0 := by decide +kernel
omit [FloatOps F] [Named F] in
theorem laterCol_iff : ∀ i : grid1.Coords, laterCol i ↔ (i 1).val ≠ 0 := by decide +kernel
omit [FloatOps F] [Named F] in
theorem cond1_iff : ∀ i : grid1.Coords, k1_cond1 i = 1#1 ↔ (i 0).val = 0 ∧ (i 1).val = 0 := by decide +kernel
omit [FloatOps F] [Named F] in
theorem cond4_iff : ∀ i : grid1.Coords, k1_cond4 i = 1#1 ↔ (i 1).val = 24 := by decide +kernel

/-- The rows' logits at their labels that a point of the sweep reads: the block of `G` at its row block. -/
def stV8 (i : grid1.Coords) (G : Vec F S1024x1 .f32) : Vec F S128x1 .f32 := VecWindow.window G (k1_off1 i) S128x1.size (k1_off1_inb i)
/-- The threshold word after the point: set at the first point, else kept. -/
def stT (i : grid1.Coords) (G : Vec F S1024x1 .f32) (t : Elt F .f32) : Elt F .f32 := if k1_cond1 i = 1#1 then k1_pay5 G else t
/-- The terms of the point's block, masked past the last column, folded to 32 lanes of 128. -/
def st39 (i : grid1.Coords) (G : Vec F S1024x1 .f32) (t : Elt F .f32) (X : Vec F S128x4096 .f32) : FVec F S128x32x128 .f32 :=
  k1_pay8 i (stT i G t) (stV8 i G) X
/-- The running sums after the point: begun at the first block of columns, else added to. -/
def stA (i : grid1.Coords) (G : Vec F S1024x1 .f32) (t : Elt F .f32) (X : Vec F S128x4096 .f32) (a : Vec F S128x128 .f32) : Vec F S128x128 .f32 :=
  if (i 1).val = 0 then k1_pay2 (st39 i G t X) else k1_pay3 (st39 i G t X) a
/-- The result word before the point's own update: zero at the first point, else kept. -/
def stO0 (i : grid1.Coords) (o : Elt F .f32) : Elt F .f32 := if k1_cond1 i = 1#1 then (Scalar.ofBits .f32 0x00000000#32 : F .f32) else o
/-- The result word after the point: at the last block of columns its rows' share is added. -/
def stO (i : grid1.Coords) (G : Vec F S1024x1 .f32) (t : Elt F .f32) (X : Vec F S128x4096 .f32) (a : Vec F S128x128 .f32) (o : Elt F .f32) : Elt F .f32 :=
  if k1_cond4 i = 1#1 then k1_pay4 (stT i G t) (k1_pay6 (stV8 i G)) (k1_pay7 (stV8 i G)) (stA i G t X a) (stO0 i o) else stO0 i o

set_option maxHeartbeats 4000000 in
/-- One point of the sweep, on any five memrefs: the logits' block and the labels' logits read, the running sums, the
    threshold word and the result word moved on as `stA`, `stT`, `stO` say. -/
theorem sweep_body (c : Dev nD) (E : Set ℕ) (i : grid1.Coords)
    (a2 : Memref sig .tc .vmem S128x4096 .f32) (h2 : a2.IsWhole) (a3 : Memref sig .tc .vmem S1024x1 .f32) (h3 : a3.IsWhole)
    (a4 : Memref sig .tc .smem S1x1 .f32) (h4 : a4.IsWhole) (a5 : Memref sig .tc .vmem S128x128 .f32) (h5 : a5.IsWhole)
    (a6 : Memref sig .tc .smem S1 .f32) (h6 : a6.IsWhole)
    (X : Vec F S128x4096 .f32) (G : Vec F S1024x1 .f32) (o : Elt F .f32) (a : Vec F S128x128 .f32) (t : Elt F .f32) :
    iprop(owns (c : Thread nD τ) a2 fullShare X ∗ owns (c : Thread nD τ) a3 fullShare G ∗ owns (c : Thread nD τ) a4 fullShare (fun _ => o)
        ∗ owns (c : Thread nD τ) a5 fullShare a ∗ owns (c : Thread nD τ) a6 fullShare (fun _ => t))
      ⊢ (wp frame (wpE (defs₀ (F := F)) 𝒱₀ c none) E (cc1__sweep_body i a2 h2 a3 h3 a4 h4 a5 h5 a6 h6) fun _ =>
          iprop(owns (c : Thread nD τ) a2 fullShare X ∗ owns (c : Thread nD τ) a3 fullShare G ∗ owns (c : Thread nD τ) a4 fullShare (fun _ => stO i G t X a o)
            ∗ owns (c : Thread nD τ) a5 fullShare (stA i G t X a) ∗ owns (c : Thread nD τ) a6 fullShare (fun _ => stT i G t)) : sProp 𝕄) := by
  simp only [cc1__sweep_body_eq_skeleton]; unfold cc1__sweep_body_skel
  rw [k1_part1_eq_skeleton]; unfold k1_part1_skel
  simp only [smemLoad, smemLoadElt]
  unfold owns
  iintro ⟨⟨%f2, %e2, H2⟩, ⟨%f3, %e3, H3⟩, ⟨%f4, %e4, H4⟩, ⟨%f5, %e5, H5⟩, ⟨%f6, %e6, H6⟩⟩
  have r2 := (View.readAt_full a2.view f2 inb_S128x4096_S128x4096_0_0).trans e2
  have r3 := (View.readAt_full a3.view f3 inb_S1024x1_S1024x1_0_0).trans e3
  have r8 : a3.view.readAt (Elt F) (Rect.unit (s := S1024x1) (k1_off1 i) S128x1.size (k1_off1_inb i)).toLoadRect f3 = stV8 i G :=
    (View.readAt_unit a3.view f3 (k1_off1_inb i) rfl (k1_off1_inb i)).trans (by rw [e3, stV8])
  have r4 := (View.readAt_full a4.view f4 inb_S1x1_S1x1_0_0).trans e4
  have r5 := (View.readAt_full a5.view f5 inb_S128x128_S128x128_0_0).trans e5
  have r6 := (View.readAt_full a6.view f6 inb_S1_S1_0).trans e6
  by_cases c1 : k1_cond1 i = 1#1 <;> by_cases c2 : firstCol i <;> by_cases c4 : k1_cond4 i = 1#1
  · exfalso; rw [firstCol_iff] at c2; rw [cond4_iff] at c4; omega
  · have c3 : ¬ laterCol i := by rw [laterCol_iff]; rw [firstCol_iff] at c2; omega
    have c2' := (firstCol_iff i).mp c2
    simp only [c1, c2, c3, c4, ↓reduceDIte]
    sl_exec
    sl_step
    isplitl [H2]; · iexists f2; isplitr; · ipureintro; exact e2
                    iexact H2
    isplitl [H3]; · iexists f3; isplitr; · ipureintro; exact e3
                    iexact H3
    isplitl [H4]
    · iexists _; isplitr; swap; · iexact H4
      ipureintro; unfold stO stO0 stA stT st39; simp only [c1, c2', c4, ↓reduceIte]
      first | exact e4 | (rw [View.read_writes_full]; rfl) | (rw [View.read_writes_full]; unfold sweep_body.sl.v50 sweep_body.sl.H5_1; rw [View.readCov_full]; simp only [stT, c1, ↓reduceIte]; rfl)
    isplitl [H5]
    · iexists _; isplitr; swap; · iexact H5
      ipureintro; unfold stA st39 stT; simp only [c1, c2', ↓reduceIte]
      first | (rw [View.read_writes_full]; done) | (rw [View.read_writes_full]; rfl) | (unfold sweep_body.sl.H5_1; rw [View.read_writes_full])
    iexists _; isplitr; swap; · iexact H6
    ipureintro; unfold stT; simp only [c1, ↓reduceIte]
    first | exact e6 | (rw [View.read_writes_full]; rfl)
  · exact absurd ((firstCol_iff i).mpr ((cond1_iff i).mp c1).2) c2
  · exact absurd ((firstCol_iff i).mpr ((cond1_iff i).mp c1).2) c2
  · exfalso; rw [firstCol_iff] at c2; rw [cond4_iff] at c4; omega
  · have c3 : ¬ laterCol i := by rw [laterCol_iff]; rw [firstCol_iff] at c2; omega
    have c2' := (firstCol_iff i).mp c2
    simp only [c1, c2, c3, c4, ↓reduceDIte]
    sl_exec
    sl_step
    isplitl [H2]; · iexists f2; isplitr; · ipureintro; exact e2
                    iexact H2
    isplitl [H3]; · iexists f3; isplitr; · ipureintro; exact e3
                    iexact H3
    isplitl [H4]
    · iexists _; isplitr; swap; · iexact H4
      ipureintro; unfold stO stO0 stA stT st39; simp only [c1, c2', c4, ↓reduceIte]
      first | exact e4 | (rw [View.read_writes_full]; rfl) | (rw [View.read_writes_full]; unfold sweep_body.sl.v50 sweep_body.sl.H5_1; rw [View.readCov_full]; simp only [stT, c1, ↓reduceIte]; rfl)
    isplitl [H5]
    · iexists _; isplitr; swap; · iexact H5
      ipureintro; unfold stA st39 stT; simp only [c1, c2', ↓reduceIte]
      first | (rw [View.read_writes_full]; done) | (rw [View.read_writes_full]; rfl) | (unfold sweep_body.sl.H5_1; rw [View.read_writes_full])
    iexists _; isplitr; swap; · iexact H6
    ipureintro; unfold stT; simp only [c1, ↓reduceIte]
    first | exact e6 | (rw [View.read_writes_full]; rfl)
  · have c3 : laterCol i := by rw [laterCol_iff]; rw [firstCol_iff] at c2; omega
    have c2' : ¬ (i 1).val = 0 := fun h => c2 ((firstCol_iff i).mpr h)
    simp only [c1, c2, c3, c4, ↓reduceDIte]
    sl_exec
    sl_step
    isplitl [H2]; · iexists f2; isplitr; · ipureintro; exact e2
                    iexact H2
    isplitl [H3]; · iexists f3; isplitr; · ipureintro; exact e3
                    iexact H3
    isplitl [H4]
    · iexists _; isplitr; swap; · iexact H4
      ipureintro; unfold stO stO0 stA stT st39; simp only [c1, c2', c4, ↓reduceIte]
      first | exact e4 | (rw [View.read_writes_full]; rfl) | (rw [View.read_writes_full]; unfold sweep_body.sl.v50 sweep_body.sl.H5_1; rw [View.readCov_full]; simp only [stT, c1, ↓reduceIte]; rfl)
    isplitl [H5]
    · iexists _; isplitr; swap; · iexact H5
      ipureintro; unfold stA st39 stT; simp only [c1, c2', ↓reduceIte]
      first | (rw [View.read_writes_full]; done) | (rw [View.read_writes_full]; rfl) | (unfold sweep_body.sl.H5_1; rw [View.read_writes_full])
    iexists _; isplitr; swap; · iexact H6
    ipureintro; unfold stT; simp only [c1, ↓reduceIte]
    first | exact e6 | (rw [View.read_writes_full]; rfl)
  · have c3 : laterCol i := by rw [laterCol_iff]; rw [firstCol_iff] at c2; omega
    have c2' : ¬ (i 1).val = 0 := fun h => c2 ((firstCol_iff i).mpr h)
    simp only [c1, c2, c3, c4, ↓reduceDIte]
    sl_exec
    sl_step
    isplitl [H2]; · iexists f2; isplitr; · ipureintro; exact e2
                    iexact H2
    isplitl [H3]; · iexists f3; isplitr; · ipureintro; exact e3
                    iexact H3
    isplitl [H4]
    · iexists _; isplitr; swap; · iexact H4
      ipureintro; unfold stO stO0 stA stT st39; simp only [c1, c2', c4, ↓reduceIte]
      first | exact e4 | (rw [View.read_writes_full]; rfl) | (rw [View.read_writes_full]; unfold sweep_body.sl.v50 sweep_body.sl.H5_1; rw [View.readCov_full]; simp only [stT, c1, ↓reduceIte]; rfl)
    isplitl [H5]
    · iexists _; isplitr; swap; · iexact H5
      ipureintro; unfold stA st39 stT; simp only [c1, c2', ↓reduceIte]
      first | (rw [View.read_writes_full]; done) | (rw [View.read_writes_full]; rfl) | (unfold sweep_body.sl.H5_1; rw [View.read_writes_full])
    iexists _; isplitr; swap; · iexact H6
    ipureintro; unfold stT; simp only [c1, ↓reduceIte]
    first | exact e6 | (rw [View.read_writes_full]; rfl)

end Cert.Proof.KernelIdeal

end
-- ==== Proof.KernelIdeal.Region.lean ====
/-
  The idealized kernel's TensorCore call as a region of @main: the sweep's state before every point as a fold, the
  pipeline's proof data over it, the body's obligation at a symbolic point, and the region entered from any contents of
  the TensorCore's buffers.
-/
module

public import proofs.«01_k».proof.Proof.KernelIdeal.Sweep
public import proofs.«01_k».proof.Proof.Gen.KernelIdeal.Launch
public import Idealize.ShloMosaic.Lib.WordCmp
public import Idealize.ShloMosaic.Lib.Pipeline.Value
public import Idealize.ShloMosaic.Lib.Pipeline.RegionsLoop

@[expose] public section

noncomputable section

namespace Cert.Proof.KernelIdeal

open Cert.KernelIdeal Cert.KernelIdeal.Gen

open Idealize.ShloMosaic
open Idealize.ShloMosaic.TcCoe
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.WordCmp
open Idealize.ShloMosaic.Pipeline (Dat Cfg Window BodyObligation BodyObligationLoose)

variable {F : FTy → Type} [FloatOps F] [Named F]

local notation "𝕄" => MT nD τ sig (HIx 1) (Elt F) ℕ UU ℕ

/-! ## The grid's coordinates at a point -/

omit [FloatOps F] [Named F] in
theorem coords_row : ∀ t : Fin grid1.N, (grid1.coords t 0).val = t.val / 25 := by decide +kernel
omit [FloatOps F] [Named F] in
theorem coords_col : ∀ t : Fin grid1.N, (grid1.coords t 1).val = t.val % 25 := by decide +kernel

/-! ## What the windows' fetches bring in -/

variable (V : (c : Dev nD) → (b : Ref sig .tc) → Buf (Elt F) ((c : Thread nD τ).loc b))

/-- The logits' block at point `t`: the part inside the array; -/
abbrev xblk (c : Dev nD) (t : Fin cfg1.N) : (win1_0.xblock (grid1.coords t)).Idx → Elt F .f32 :=
  (win1_0.blk t).view.read (Elt F) (V c main_arg0)
/-- filled out past the array's last column with a word nothing reads. -/
def xfull (c : Dev nD) (t : Fin cfg1.N) : Vec F S128x4096 .f32 :=
  win1_0.fill (grid1.coords t) (fun _ => Scalar.ofBits .f32 0x00000000#32) (xblk V c t)
/-- The labels' logits, one column. -/
abbrev gcol (c : Dev nD) : Vec F S1024x1 .f32 := V c main_v2

/-! ## The masked terms do not depend on the filler -/

omit [FloatOps F] [Named F] in
/-- What a fetch of the logits moves: all 128 rows, the columns inside the array. -/
theorem xsize0 : ∀ t : Fin cfg1.N, win1_0.xsize (grid1.coords t) 0 = 128 ∧ win1_0.xsize (grid1.coords t) 1 = min 4096 (100000 - (t.val % 25) * 4096) := by
  decide +kernel

omit [FloatOps F] [Named F] in
theorem moved0 (t : Fin cfg1.N) (y : S128x4096.Idx) (h : (grid1.coords t 1).val * 4096 + (y 1).val < 100000) :
    win1_0.moved (grid1.coords t) y = true := by
  rw [Window.moved_iff]
  intro a
  have h0 := (y 0).isLt; have h1 := (y 1).isLt
  have e := xsize0 t
  rw [coords_col] at h
  match a with
  | ⟨0, _⟩ => exact e.1 ▸ h0
  | ⟨1, _⟩ => exact lt_of_lt_of_eq (lt_min (show (y 1).val < 4096 from h1) (show (y 1).val < _ by omega)) e.2.symm

omit [FloatOps F] [Named F] in
/-- The printed mask: whether a block's column stands inside the array. -/
theorem mask_iff (i : grid1.Coords) (y : S128x4096.Idx) :
    cmpi .slt (addi (broadcast S128x4096 (Scalar.muli (BitVec.ofNat 32 (i 1).val) 4096#32)) (iota .tc S128x4096 32 [1] iota_S128x4096_d1_w32)) (broadcast S128x4096 100000#32) y = 1#1
      ↔ (i 1).val * 4096 + (y 1).val < 100000 := by
  have hi : (i 1).val < 25 := (i 1).isLt
  have hy : (y 1).val < 4096 := (y 1).isLt
  rw [cmpi_at, broadcast_at, show addi (broadcast S128x4096 (Scalar.muli (BitVec.ofNat 32 (i 1).val) 4096#32)) (iota .tc S128x4096 32 [1] iota_S128x4096_d1_w32) y
    = BitVec.ofNat 32 ((i 1).val * 4096 + (y 1).val) from by
      show Scalar.muli (BitVec.ofNat 32 (i 1).val) 4096#32 + iota .tc S128x4096 32 [1] iota_S128x4096_d1_w32 y = _
      rw [iota_at]
      simp only [List.foldl_cons, List.foldl_nil, Nat.zero_mul, Nat.zero_add, BitVec.ofNat_add, BitVec.ofNat_mul]
      rfl]
  exact cmpi_slt_ofNat_eq_one_iff (a := (i 1).val * 4096 + (y 1).val) (b := 100000) (by omega) (by norm_num)

/-- The terms of a block are the same whatever stands past the array's last column. -/
theorem pay8_congr (i : grid1.Coords) (t : Elt F .f32) (v8 : Vec F S128x1 .f32) (X X' : Vec F S128x4096 .f32)
    (h : ∀ y : S128x4096.Idx, (i 1).val * 4096 + (y 1).val < 100000 → X y = X' y) : k1_pay8 i t v8 X = k1_pay8 i t v8 X' := by
  unfold k1_pay8
  refine congrArg (fun v => shapeCast S128x32x128 v shapeCasts_S128x4096_S128x32x128) (funext fun y => ?_)
  by_cases hc : (i 1).val * 4096 + (y 1).val < 100000
  · simp only [select, exp, subf, mulf, addf, cmpf, h y hc]
  · have hm := mt (mask_iff i y).mp hc
    simp only [select]
    exact (if_neg hm).trans (if_neg hm).symm

/-! ## The sweep's state before every point -/

/-- One point: the threshold word, the running sums and the result word moved on. -/
def step (i : grid1.Coords) (G : Vec F S1024x1 .f32) (X : Vec F S128x4096 .f32) (s : Elt F .f32 × Vec F S128x128 .f32 × Elt F .f32) :
    Elt F .f32 × Vec F S128x128 .f32 × Elt F .f32 :=
  (stT i G s.1, stA i G s.1 X s.2.1, stO i G s.1 X s.2.1 s.2.2)

/-- The state before point `n` (any state before the first: the first point sets all three). -/
def stAt (c : Dev nD) : ℕ → Elt F .f32 × Vec F S128x128 .f32 × Elt F .f32
  | 0 => (Scalar.ofBits .f32 0x00000000#32, fun _ => Scalar.ofBits .f32 0x00000000#32, Scalar.ofBits .f32 0x00000000#32)
  | n + 1 => if h : n < cfg1.N then step (grid1.coords ⟨n, h⟩) (gcol V c) (xfull V c ⟨n, h⟩) (stAt c n) else stAt c n

theorem stAt_succ (c : Dev nD) (t : Fin cfg1.N) :
    stAt V c (t.val + 1) = step (grid1.coords t) (gcol V c) (xfull V c t) (stAt V c t.val) := by
  rw [stAt, dif_pos t.isLt]

/-- The first point does not read the state. -/
theorem step_first (i : grid1.Coords) (G : Vec F S1024x1 .f32) (X : Vec F S128x4096 .f32) (h0 : (i 0).val = 0) (h1 : (i 1).val = 0)
    (s s' : Elt F .f32 × Vec F S128x128 .f32 × Elt F .f32) : step i G X s = step i G X s' := by
  have c1 : k1_cond1 i = 1#1 := (cond1_iff i).mpr ⟨h0, h1⟩
  simp only [step, stO, stO0, stA, st39, stT, c1, h1, ↓reduceIte]

/-- The invariant between the points: the two scratch buffers at the state (before the first point at anything). -/
def Φs (c : Dev nD) (n : ℕ) : sProp 𝕄 :=
  iprop(∃ a t, ⌜n ≠ 0 → a = (stAt V c n).2.1 ∧ t = (stAt V c n).1⌝
    ∗ owns (c : Thread nD τ) (Memref.whole cc1_scratch0) fullShare a ∗ owns (c : Thread nD τ) (Memref.whole cc1_scratch1) fullShare (fun _ => t))

variable (b : ℕ)

/-- The pipeline's proof data: the arrays at their contents on entry; after the body the logits' buffer at its block, the
    labels' logits' at its column, the result's at the result word; the invariant `Φs`; nothing owed; the core's waits at
    levels up to `b`. -/
def dat (c : Dev nD) : Dat τ (Elt F) (HIx 1) ℕ UU ℕ cfg1 c where
  A w := V c (Pipeline.arrRef spec1 w)
  after w t := match w with
    | ⟨0, _⟩ => xfull V c t
    | ⟨1, _⟩ => gcol V c
    | ⟨2, _⟩ => fun _ => (stAt V c (t.val + 1)).2.2
  Φ t := Φs V c t.val
  q _ := fullShare
  owed _ := 0
  recorded _ := {p | (K (F := F)).lev (T c, p.1) p.2 ≤ b}

theorem before_0 (c : Dev nD) (t : Fin cfg1.N) (d) : (dat V b c).before (0 : Fin 3) t d = win1_0.fill (grid1.coords t) d (xblk V c t) := by
  unfold Dat.before; rw [if_pos (fetch1_0 t)]; rfl

omit [FloatOps F] [Named F] in
theorem blk1_read (t : Fin cfg1.N) (f : Vec F S1024x1 .f32) : (win1_1.blk t).view.read (Elt F) f = f := by
  funext y
  rw [View.read_apply]
  refine congrArg f (funext fun a => Fin.ext ?_)
  exact win1_1.rect_emb_val_of_index_zero t a (by match a with | ⟨0, _⟩ => rfl | ⟨1, _⟩ => rfl) y

omit [FloatOps F] [Named F] in
theorem blk2_read (t : Fin cfg1.N) (f : Vec F S1x1 .f32) : (win1_2.blk t).view.read (Elt F) f = f := by
  funext y
  rw [View.read_apply]
  refine congrArg f (funext fun a => Fin.ext ?_)
  exact win1_2.rect_emb_val_of_index_zero t a (by match a with | ⟨0, _⟩ => rfl | ⟨1, _⟩ => rfl) y

omit [FloatOps F] [Named F] in
theorem blk2_mem (t : Fin cfg1.N) (i : S1x1.Idx) : i ∈ (win1_2.blk t).view.set := by
  have e : (win1_2.blk t).view.emb i = i := funext fun a => Fin.ext
    (win1_2.rect_emb_val_of_index_zero t a (by match a with | ⟨0, _⟩ => rfl | ⟨1, _⟩ => rfl) i)
  have h := View.emb_mem_set (win1_2.blk t).view i
  rw [e] at h; exact h

theorem before_1 (c : Dev nD) (t : Fin cfg1.N) (d) : (dat V b c).before (1 : Fin 3) t d = gcol V c := by
  rw [(dat V b c).before_in_eq_fetched (1 : Fin 3) rfl (fun _ => rfl) (fun _ _ _ => rfl) (fun t => ?_)]
  · exact blk1_read t (gcol V c)
  · exact (blk1_read t (gcol V c)).symm

/-- The points where the result's buffer is not touched. -/
theorem idle2_iff (t : Fin cfg1.N) : cfg1.idle (2 : Fin 3) (cfg1.grid.coords t) = true
    ↔ ¬ k1_cond1 (grid1.coords t) = 1#1 ∧ ¬ k1_cond4 (grid1.coords t) = 1#1 := by
  show idle1 2 (grid1.coords t) = true ↔ _
  simp [idle1]

theorem step_idle (t : Fin cfg1.N) (h : cfg1.idle (2 : Fin 3) (cfg1.grid.coords t) = true) (G : Vec F S1024x1 .f32) (X : Vec F S128x4096 .f32)
    (s : Elt F .f32 × Vec F S128x128 .f32 × Elt F .f32) : (step (grid1.coords t) G X s).2.2 = s.2.2 := by
  have h := (idle2_iff t).mp h
  simp only [step, stO, stO0, if_neg h.1, if_neg h.2]

theorem flush2 (t : Fin cfg1.N) (h : t.val + 1 < 200) : (cfg1.win (2 : Fin 3)).flush t = false := by
  rw [← Bool.not_eq_true]; intro hf
  have := (flush1_2 t).mp hf
  omega

theorem kept_2 (c : Dev nD) (t : Fin cfg1.N) (d) : (dat V b c).kept (2 : Fin 3) t d = fun _ => (stAt V c (t.val + 1)).2.2 := rfl

theorem left_2 (c : Dev nD) (n : ℕ) (h : n + 1 < cfg1.N) (d) : (dat V b c).left (2 : Fin 3) ⟨n, Nat.lt_of_succ_lt h⟩ d = fun _ => (stAt V c (n + 1)).2.2 := by
  induction n with
  | zero =>
    unfold Dat.left
    cases hi : cfg1.idle (2 : Fin 3) (cfg1.grid.coords ⟨0, Nat.lt_of_succ_lt h⟩)
    · exact kept_2 V b c ⟨0, Nat.lt_of_succ_lt h⟩ d
    · exact absurd ((cond1_iff _).mpr ⟨by rw [coords_row]; exact Nat.zero_div 25, by rw [coords_col]; exact Nat.zero_mod 25⟩) ((idle2_iff _).mp hi).1
  | succ n ih =>
    unfold Dat.left
    cases hi : cfg1.idle (2 : Fin 3) (cfg1.grid.coords ⟨n + 1, Nat.lt_of_succ_lt h⟩)
    · rfl
    · show (dat V b c).before (2 : Fin 3) ⟨n + 1, Nat.lt_of_succ_lt h⟩ d = _
      rw [Dat.before_of_pos _ _ _ (Nat.succ_ne_zero n) rfl, if_neg (by rw [flush2 _ (lt_trans (Nat.lt_succ_self _) h)]; exact Bool.false_ne_true)]
      refine (ih (Nat.lt_of_succ_lt h)).trans (funext fun _ => ?_)
      rw [stAt_succ V c ⟨n + 1, Nat.lt_of_succ_lt h⟩, step_idle _ hi]

theorem before_2 (c : Dev nD) (t : Fin cfg1.N) (ht : t.val ≠ 0) (d) :
    (dat V b c).before (2 : Fin 3) t d = fun _ => (stAt V c t.val).2.2 := by
  have hl := t.isLt
  rw [Dat.before_of_pos _ _ _ ht rfl, if_neg (by rw [flush2 _ (by show t.val - 1 + 1 < 200; have : t.val < 200 := hl; omega)]; exact Bool.false_ne_true)]
  have e : t.val - 1 + 1 = t.val := by omega
  rw [left_2 V b c (t.val - 1) (by rw [e]; exact hl) d, e]

omit [FloatOps F] [Named F] in
theorem const_S1x1 (f : S1x1.Idx → Elt F .f32) : ∃ o, f = fun _ => o :=
  ⟨f fun a => ⟨0, by revert a; decide⟩, funext fun y => congrArg f (funext fun a => Fin.ext (by
    have := (y a).isLt; revert this; match a with | ⟨0, _⟩ => intro h; exact Nat.lt_one_iff.mp h | ⟨1, _⟩ => intro h; exact Nat.lt_one_iff.mp h))⟩

omit [FloatOps F] [Named F] in
theorem const_S1 (f : S1.Idx → Elt F .f32) : ∃ o, f = fun _ => o :=
  ⟨f fun a => ⟨0, by revert a; decide⟩, funext fun y => congrArg f (funext fun a => Fin.ext (by
    have := (y a).isLt; revert this; match a with | ⟨0, _⟩ => intro h; exact Nat.lt_one_iff.mp h))⟩

/-- The body's step from what it finds: the state moved on. -/
theorem step_found (c : Dev nD) (t : Fin cfg1.N) (d : Vec F S128x4096 .f32) (a : Vec F S128x128 .f32) (t' o : Elt F .f32)
    (h : t.val ≠ 0 → a = (stAt V c t.val).2.1 ∧ t' = (stAt V c t.val).1 ∧ o = (stAt V c t.val).2.2) :
    step (grid1.coords t) (gcol V c) (win1_0.fill (grid1.coords t) d (xblk V c t)) (t', a, o) = stAt V c (t.val + 1) := by
  have hX : step (grid1.coords t) (gcol V c) (win1_0.fill (grid1.coords t) d (xblk V c t)) (t', a, o)
      = step (grid1.coords t) (gcol V c) (xfull V c t) (t', a, o) := by
    have := pay8_congr (F := F) (grid1.coords t) (stT (grid1.coords t) (gcol V c) t') (stV8 (grid1.coords t) (gcol V c)) (win1_0.fill (grid1.coords t) d (xblk V c t)) (xfull V c t)
      (fun y hy => by unfold xfull Window.fill; rw [dif_pos (moved0 t y hy), dif_pos (moved0 t y hy)])
    simp only [step, stO, stA, st39, this]
  rw [hX, stAt_succ]
  by_cases h0 : t.val = 0
  · exact step_first _ _ _ (by rw [coords_row, h0]) (by rw [coords_col, h0]) _ _
  · obtain ⟨rfl, rfl, rfl⟩ := h h0; rfl

set_option maxHeartbeats 1000000 in
/-- The body's obligation, at a symbolic point. -/
theorem body_obligation (c : Dev nD) : BodyObligationLoose (dat V b c) (defs₀ (F := F)) 𝒱₀ (default : HIx 1) Set.univ := fun t => by
  rw [bigSep_W1, bigSep_W1]
  have e0 : ∀ n, Dat.Φ (dat V b c) n = Φs V c n.val := fun _ => rfl
  show iprop((dat V b c).Φ t.castSucc ∗ (dat V b c).owesAt default t.castSucc
      ∗ (∃ d, owns (c : Thread nD τ) (st1_0 t) fullShare ((dat V b c).before 0 t d))
      ∗ (∃ d, owns (c : Thread nD τ) (st1_1 t) fullShare ((dat V b c).before 1 t d))
      ∗ (∃ d, owns (c : Thread nD τ) (st1_2 t) fullShare ((dat V b c).before 2 t d)))
    ⊢ (wp frame (wpE (defs₀ (F := F)) 𝒱₀ c none) Set.univ (bodyAt1 t) fun _ => iprop((dat V b c).Φ t.succ ∗ (dat V b c).owesAt default t.succ
      ∗ (∃ d, owns (c : Thread nD τ) (st1_0 t) fullShare (win1_0.fill (grid1.coords t) d (win1_0.cut (grid1.coords t) (xfull V c t))))
      ∗ owns (c : Thread nD τ) (st1_1 t) fullShare (gcol V c)
      ∗ (match cfg1.idle 2 (cfg1.grid.coords t) with
          | true => match (cfg1.win 2).flush t with
            | false => iprop(∃ d, owns (c : Thread nD τ) (st1_2 t) fullShare ((dat V b c).before 2 t d))
            | true => owns (c : Thread nD τ) (st1_2 t) fullShare (fun _ => (stAt V c (t.val + 1)).2.2)
          | false => owns (c : Thread nD τ) (st1_2 t) fullShare (fun _ => (stAt V c (t.val + 1)).2.2))))
  rw [e0, e0, show (dat V b c).owesAt default t.succ = (dat V b c).owesAt default t.castSucc from rfl]
  unfold Φs
  iintro ⟨⟨%a, %t', %hΦ, HA, HT⟩, Howe, ⟨%d0, H0⟩, ⟨%d1, H1⟩, ⟨%d2, H2⟩⟩
  rw [before_0, before_1]
  obtain ⟨o, ho⟩ := const_S1x1 ((dat V b c).before 2 t d2)
  have hs : t.val ≠ 0 → a = (stAt V c t.val).2.1 ∧ t' = (stAt V c t.val).1 ∧ o = (stAt V c t.val).2.2 := fun h =>
    ⟨(hΦ h).1, (hΦ h).2, by
      have := ho.symm.trans (before_2 V b c t h d2)
      exact congrFun this (fun a => ⟨0, by revert a; decide⟩)⟩
  have hst := step_found V c t d0 a t' o hs
  have hT : stT (grid1.coords t) (gcol V c) t' = (stAt V c (t.val + 1)).1 := congrArg Prod.fst hst
  have hA : stA (grid1.coords t) (gcol V c) t' (win1_0.fill (grid1.coords t) d0 (xblk V c t)) a = (stAt V c (t.val + 1)).2.1 := congrArg (·.2.1) hst
  have hO : stO (grid1.coords t) (gcol V c) t' (win1_0.fill (grid1.coords t) d0 (xblk V c t)) a o = (stAt V c (t.val + 1)).2.2 := congrArg (·.2.2) hst
  iapply (wp_wand_r Idealize.ShloMosaic.frame (wpE (defs₀ (F := F)) 𝒱₀ (c : Thread nD τ) none) Set.univ)
  isplitl [HA HT H0 H1 H2]
  · iapply (sweep_body (F := F) c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _) (Memref.whole cc1_scratch1) (Memref.isWhole_whole _) (win1_0.fill (grid1.coords t) d0 (xblk V c t)) (gcol V c) o a t')
    rw [← ho]
    iframe
  · iintro %_ ⟨H0, H1, H2, HA, HT⟩
    rw [hT, hA, hO]
    isplitl [HA HT]
    · iexists (stAt V c (t.val + 1)).2.1, (stAt V c (t.val + 1)).1
      isplitr; · ipureintro; exact fun _ => ⟨rfl, rfl⟩
      iframe
    isplitl [Howe]; · iexact Howe
    isplitl [H0]
    · iexists d0; rw [show win1_0.cut (grid1.coords t) (xfull V c t) = xblk V c t from Window.cut_fill _ _ _ _]; iexact H0
    isplitl [H1]; · iexact H1
    cases hi : cfg1.idle 2 (cfg1.grid.coords t)
    · iexact H2
    · cases hf : (cfg1.win 2).flush t
      · have h0 : t.val ≠ 0 := fun h0 => ((idle2_iff t).mp hi).1 ((cond1_iff _).mpr ⟨by rw [coords_row, h0], by rw [coords_col, h0]⟩)
        have : (fun _ => (stAt V c (t.val + 1)).2.2 : S1x1.Idx → Elt F .f32) = (dat V b c).before 2 t d2 := by
          rw [before_2 V b c t h0, stAt_succ, step_idle t hi]; rfl
        rw [this]
        iexists d2; iexact H2
      · iexact H2

/-- The result's array after the region: the result word of the last point. -/
theorem result_arr (c : Dev nD) : (dat V b c).arrAt (2 : Fin 3) cfg1.N = fun _ => (stAt V c 200).2.2 := by
  refine (dat V b c).arrAt_eq_of_cover (2 : Fin 3) (fun _ => (stAt V c 200).2.2) (fun t hf => ?_) (fun i => ?_)
  · have h := (flush1_2 t).mp hf
    have hl : t.val < 200 := t.isLt
    have e : t.val + 1 = 200 := by omega
    refine Eq.trans ?_ (blk2_read (F := F) t (fun _ => (stAt V c 200).2.2)).symm
    show (fun _ => (stAt V c (t.val + 1)).2.2) = _
    rw [e]; rfl
  · refine ⟨⟨199, by decide⟩, (flush1_2 _).mpr rfl, ?_⟩
    exact blk2_mem ⟨199, by decide⟩ i

variable (adm : (p : Fin 1) → (pcfgs (F := F) p).Adm)

/-- The region's proof data, by pipeline. -/
def pdats : (p : Fin 1) → (c : Dev nD) → Dat τ (Elt F) (HIx 1) ℕ UU ℕ (Pipeline.pin (pcfgs (F := F)) adm p) c
  | ⟨0, _⟩ => fun c => dat V b c

variable (Vp : (c : Dev nD) → (b : Ref sig .tc) → Buf (Elt F) ((c : Thread nD τ).loc b))

set_option backward.isDefEq.respectTransparency.types false in
/-- The region, over the state "every unscoped buffer at `V c`, `R c`, the core owing nothing with its waits at levels up
    to `b`": left with the result's array at the last point's result word. -/
def reg (R : Dev nD → sProp 𝕄) (hVp_out : ∀ c, Vp c main_v3 = fun _ => (stAt V c 200).2.2)
    (hVp_ne : ∀ c (r : Ref sig .tc), r ≠ main_v3 → Vp c r = V c r) :
    Pipeline.RegionSeg (pcfgs (F := F)) adm (pdats V b adm) (default : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation V b c
  hwaits := Pipeline.hwaits_of_owed_zero _ _ _ _ (K (F := F)).L (K (F := F)).lev 0 fun _ _ => rfl
  pre c := iprop(unscopedBufs c (V c) ∗ R c ∗ ∃ W, ⌜(K (F := F)).WBelow (T c) W b⌝ ∗ owes (c : Thread nD τ) (0 : CellTallies nD τ sig (HIx 1)) W)
  post c := iprop(unscopedBufs c (Vp c) ∗ R c ∗ ∃ W, ⌜(K (F := F)).WBelow (T c) W b⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V b adm) launch1.win launch1.arr_whole c
      ((pdats V b adm 0 c).share_full fun _ => rfl) (V c) fun _ => rfl
    iintro ⟨⟨Hub, HR, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    isplitl [Hrest] <;> iassumption
  hin c := by
    rw [show (pdats V b adm 0 c).Φ 0 = Φs V c 0 from rfl, scopedRest1_eq]
    unfold Φs
    iintro ⟨-, -, ⟨%f0, H0⟩, ⟨%f1, H1⟩⟩
    obtain ⟨t, rfl⟩ := const_S1 (F := F) f1
    iexists f0, t
    isplitr; · ipureintro; exact fun h => absurd rfl h
    rw [owns_whole_eq, owns_whole_eq]
    isplitl [H0]; · iexists f0; isplitr; · ipureintro; rfl
                    iexact H0
    iexists (fun _ => t); isplitr; · ipureintro; rfl
    iexact H1
  hout c := by
    rw [Pipeline.ownSems0_none, show (pdats V b adm 0 c).Φ (Fin.last _) = Φs V c 200 from rfl, scopedRest1_eq]
    unfold Φs
    simp only [owns_whole_eq]
    iintro ⟨%a, %t, -, ⟨%f0, -, H0⟩, ⟨%f1, -, H1⟩⟩
    isplitr; · iempintro
    isplitr; · iempintro
    isplitl [H0]; · iexists f0; iexact H0
    iexists f1; iexact H1
  hexit c := by
    have hjoin := Pipeline.unscopedBufs_of_arrays (p := 0) (pcfgs (F := F)) adm (Ix := HIx 1) (Name := ℕ) (U := UU) (Lvl := ℕ) launch1.win launch1.arr_whole c
      (pdats V b adm) ((pdats V b adm 0 c).share_full fun _ => rfl) (V c) (Vp c) ((pdats V b adm 0 c).arrAt · cfg1.N)
      (fun w => by
        fin_cases w
        · exact ((pdats V b adm 0 c).arrAt_in 0 rfl _).trans (hVp_ne c main_arg0 (by decide)).symm
        · exact ((pdats V b adm 0 c).arrAt_in 1 rfl _).trans (hVp_ne c main_v2 (by decide)).symm
        · exact (result_arr V b c).trans (hVp_out c).symm)
      (fun r hr => hVp_ne c r fun h => hr (h ▸ Finset.mem_image.mpr ⟨2, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr; swap; · iexact HO
    ipureintro
    intro p hp
    rcases hW hp with h | h
    · exact h
    · obtain ⟨w, s, rfl⟩ := h
      show (K (F := F)).lev _ none ≤ b
      rw [SparseCore.Cfg.lev_none]; exact Nat.zero_le _

end Cert.Proof.KernelIdeal

end
-- ==== Proof.KernelIdeal.Run.lean ====
/-
  The idealized kernel's run: @main on the TensorCore (the flattening, the SparseCore call, the reshape, the TensorCore
  call as a region, the last reshape), the certificate's ghost state, and the program's run with the loss it leaves.
-/
module

public import proofs.«01_k».proof.Proof.KernelIdeal.GatherObl
public import proofs.«01_k».proof.Proof.KernelIdeal.Region
public import Idealize.ShloMosaic.Lib.StableHlo.Run

@[expose] public section

noncomputable section

namespace Cert.Proof.KernelIdeal

open Cert.KernelIdeal Cert.KernelIdeal.Gen

open Idealize.ShloMosaic
open Idealize.ShloMosaic.TcCoe
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The TensorCore's arrays -/

abbrev a' : DevRef τ sig := Proc.devRef .tc (main_arg0 : Ref sig .tc)
abbrev l' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev g' : DevRef τ sig := Proc.devRef .tc (main_v2 : Ref sig .tc)
abbrev s' : DevRef τ sig := Proc.devRef .tc (main_v3 : Ref sig .tc)
abbrev r' : DevRef τ sig := Proc.devRef .tc (main_v4 : Ref sig .tc)
abbrev rLoc (d : Dev nD) : Loc nD τ sig := (SparseCore.T d).loc main_v4

/-- The flattening of the logits, the reshape of the gathered ones to a column, the reshape of the loss to a scalar. -/
abbrev opFlat : HloOp τ sig (Elt F) := StableHlo.reshape main_arg0 main_v0 (rfl : (.f32 : EltTy) = .f32) shapeCasts_S1024x100000_S102400000
abbrev opCol : HloOp τ sig (Elt F) := StableHlo.reshape main_v1 main_v2 (rfl : (.f32 : EltTy) = .f32) shapeCasts_S1024_S1024x1
abbrev opOut : HloOp τ sig (Elt F) := StableHlo.reshape main_v3 main_v4 (rfl : (.f32 : EltTy) = .f32) shapeCasts_S1x1_S_

/-- The TensorCore's arrays, all unscoped. -/
abbrev S7 : Finset (DevRef τ sig) := {a', l', x', o', g', s', r'}

theorem held_S7 (d : Dev nD) (W : Valuation τ sig (Elt F)) :
    (held (T d) S7 W : sProp 𝕄)
      = iprop((aLoc d ↦{fullShare} W a') ∗ (lLoc d ↦{fullShare} W l') ∗ (xLoc d ↦{fullShare} W x') ∗ (oLoc d ↦{fullShare} W o')
          ∗ ((SparseCore.T d).loc main_v2 ↦{fullShare} W g') ∗ ((SparseCore.T d).loc main_v3 ↦{fullShare} W s') ∗ rLoc d ↦{fullShare} W r') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (lLoc d ↦{fullShare} W main_arg1) ∗ (xLoc d ↦{fullShare} W main_v0) ∗ (oLoc d ↦{fullShare} W main_v1)
          ∗ ((SparseCore.T d).loc main_v2 ↦{fullShare} W main_v2) ∗ ((SparseCore.T d).loc main_v3 ↦{fullShare} W main_v3) ∗ rLoc d ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A valuation's contents of the TensorCore's buffers. -/
abbrev atTc (W : Dev nD → Valuation τ sig (Elt F)) : (c : Dev nD) → (b : Ref sig .tc) → Buf (Elt F) ((c : Thread nD τ).loc b) :=
  fun c b => W c (Proc.devRef .tc b)

theorem unscoped_held (d : Dev nD) (W : Dev nD → Valuation τ sig (Elt F)) : (unscopedBufs d (atTc W d) : sProp 𝕄) = held (T d) S7 (W d) := by
  rw [unscopedBufs_eq, held_S7]

/-! ## The arrays' contents along @main -/

/-- The labels and the result's buffer at launch; the flattened logits. -/
def lab (d : Dev nD) : Buf (Elt F) (lLoc d) := m (lLoc d)
def out (d : Dev nD) : Buf (Elt F) (oLoc d) := m (oLoc d)
def flat (d : Dev nD) : Buf (Elt F) (xLoc d) := shapeCast S102400000 (m (aLoc d) : S1024x100000.Idx → Elt F .f32) shapeCasts_S1024x100000_S102400000

/-- At launch; after the flattening; after the SparseCore call; after the reshape to a column; after the TensorCore call. -/
def V0 (d : Dev nD) : Valuation τ sig (Elt F) := fun b => m (d, b)
def V1 (d : Dev nD) : Valuation τ sig (Elt F) := (opFlat (F := F)).result (V0 m d)
def V2 (d : Dev nD) : Valuation τ sig (Elt F) := Function.update (V1 m d) o' (gat (lab m) (flat m) d)
def V3 (d : Dev nD) : Valuation τ sig (Elt F) := (opCol (F := F)).result (V2 m d)
/-- The loss the TensorCore call leaves. -/
def loss (d : Dev nD) : Elt F .f32 := (stAt (atTc (V3 m)) d 200).2.2
def V4 (d : Dev nD) : Valuation τ sig (Elt F) := Function.update (V3 m d) s' (fun _ => loss m d)
def V5 (d : Dev nD) : Valuation τ sig (Elt F) := (opOut (F := F)).result (V4 m d)

theorem V1_ne (d : Dev nD) (b : DevRef τ sig) (h : b ≠ x') : V1 m d b = m (d, b) :=
  (opFlat (F := F)).result_of_not_mem _ (show b ∉ ({x'} : Finset (DevRef τ sig)) by simpa using h)
theorem V1_x (d : Dev nD) : V1 m d x' = flat m d := StableHlo.reshape_result _ _ _ _ _ _ _
theorem V2_ne (d : Dev nD) (b : DevRef τ sig) (h : b ≠ o') : V2 m d b = V1 m d b := Function.update_of_ne h _ _
theorem V2_o (d : Dev nD) : V2 m d o' = gat (lab m) (flat m) d := Function.update_self _ _ _
theorem V3_ne (d : Dev nD) (b : DevRef τ sig) (h : b ≠ g') : V3 m d b = V2 m d b :=
  (opCol (F := F)).result_of_not_mem _ (show b ∉ ({g'} : Finset (DevRef τ sig)) by simpa using h)
theorem V3_g (d : Dev nD) : V3 m d g' = shapeCast S1024x1 (gat (lab m) (flat m) d : S1024.Idx → Elt F .f32) shapeCasts_S1024_S1024x1 :=
  (StableHlo.reshape_result _ _ _ _ _ _ _).trans (by rw [V2_o]; rfl)
theorem V4_ne (d : Dev nD) (b : DevRef τ sig) (h : b ≠ s') : V4 m d b = V3 m d b := Function.update_of_ne h _ _
theorem V4_s (d : Dev nD) : V4 m d s' = fun _ => loss m d := Function.update_self _ _ _
theorem V5_ne (d : Dev nD) (b : DevRef τ sig) (h : b ≠ r') : V5 m d b = V4 m d b :=
  (opOut (F := F)).result_of_not_mem _ (show b ∉ ({r'} : Finset (DevRef τ sig)) by simpa using h)
theorem V5_r (d : Dev nD) : V5 m d r' = fun _ => loss m d :=
  (StableHlo.reshape_result _ _ _ _ _ _ _).trans (by rw [V4_s]; rfl)

theorem V5_a (d : Dev nD) : V5 m d a' = m (aLoc d) := by
  rw [V5_ne m d a' (by decide), V4_ne m d a' (by decide), V3_ne m d a' (by decide), V2_ne m d a' (by decide), V1_ne m d a' (by decide)]
theorem V5_l (d : Dev nD) : V5 m d l' = m (lLoc d) := by
  rw [V5_ne m d l' (by decide), V4_ne m d l' (by decide), V3_ne m d l' (by decide), V2_ne m d l' (by decide), V1_ne m d l' (by decide)]

/-- What the TensorCore call reads: the logits as launched, the gathered logits as a column. -/
theorem V3_a (d : Dev nD) : V3 m d a' = m (aLoc d) := by
  rw [V3_ne m d a' (by decide), V2_ne m d a' (by decide), V1_ne m d a' (by decide)]

theorem hFlat : (opFlat (F := F)).bufs ⊆ S7 := show ({a', x'} : Finset (DevRef τ sig)) ⊆ S7 by decide
theorem hCol : (opCol (F := F)).bufs ⊆ S7 := show ({o', g'} : Finset (DevRef τ sig)) ⊆ S7 by decide
theorem hOut : (opOut (F := F)).bufs ⊆ S7 := show ({s', r'} : Finset (DevRef τ sig)) ⊆ S7 by decide

/-- The arrays before and after the SparseCore call. -/
theorem held_V1 (d : Dev nD) :
    (held (T d) S7 (V1 m d) : sProp 𝕄)
      = iprop((aLoc d ↦{fullShare} V1 m d a') ∗ (lLoc d ↦{fullShare} lab m d) ∗ (xLoc d ↦{fullShare} flat m d) ∗ (oLoc d ↦{fullShare} out m d)
          ∗ ((SparseCore.T d).loc main_v2 ↦{fullShare} V1 m d g') ∗ ((SparseCore.T d).loc main_v3 ↦{fullShare} V1 m d s') ∗ rLoc d ↦{fullShare} V1 m d r') := by
  rw [held_S7, V1_x, V1_ne m d l' (by decide), V1_ne m d o' (by decide)]; rfl
theorem held_V2 (d : Dev nD) :
    (held (T d) S7 (V2 m d) : sProp 𝕄)
      = iprop((aLoc d ↦{fullShare} V1 m d a') ∗ (lLoc d ↦{fullShare} lab m d) ∗ (xLoc d ↦{fullShare} flat m d) ∗ (oLoc d ↦{fullShare} gat (lab m) (flat m) d)
          ∗ ((SparseCore.T d).loc main_v2 ↦{fullShare} V1 m d g') ∗ ((SparseCore.T d).loc main_v3 ↦{fullShare} V1 m d s') ∗ rLoc d ↦{fullShare} V1 m d r') := by
  rw [held_S7, V2_o, V2_ne m d x' (by decide), V1_x, V2_ne m d a' (by decide), V2_ne m d l' (by decide), V2_ne m d g' (by decide),
    V2_ne m d s' (by decide), V2_ne m d r' (by decide), V1_ne m d l' (by decide)]; rfl

/-! ## The TensorCore call -/

/-- Every pipeline takes its unprefetched table. -/
abbrev adm₀ : (p : Fin 1) → (pcfgs (F := F) p).Adm := fun p => (cfgs p).toPCfg_adm

/-- The ghost state the TensorCore call of device `d` consumes. -/
def G (d : Dev nD) : sProp 𝕄 :=
  iprop(Pipeline.cellsGhost (Pipeline.pin (pcfgs (F := F)) adm₀) (EP (F := F)) 0 d ∗ Pipeline.toksInit (Pipeline.pin (pcfgs (F := F)) adm₀) (EP (F := F)) 0 d)

/-- The TensorCore call, from any contents `W` of its arrays: the loss's array left at the sweep's result. -/
theorem wp_sweep [∀ e, Nonempty (Elt F e)] (W Wp : Dev nD → Valuation τ sig (Elt F)) (b : ℕ)
    (hout : ∀ c, Wp c s' = fun _ => (stAt (atTc W) c 200).2.2) (hne : ∀ c r, r ≠ s' → Wp c r = W c r)
    (d : Dev nD) (Φ : PUnit → sProp 𝕄) :
    iprop((iprop(boundary (SparseCore.T d) ∗ held (T d) S7 (Wp d) ∗ ∃ X, ⌜(K (F := F)).WBelow (T d) X b⌝ ∗ owes (T d) (0 : CellTallies nD τ sig (HIx 1)) X) -∗ Φ ⟨⟩)
        ∗ boundary (SparseCore.T d) ∗ held (T d) S7 (W d) ∗ (∃ X, ⌜(K (F := F)).WBelow (T d) X b⌝ ∗ owes (T d) (0 : CellTallies nD τ sig (HIx 1)) X)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Φ := by
  have hL := (K (F := F)).wp_liftProg (U := UU) (Name := ℕ) (D (F := F)) 𝒱 (SparseCore.T d) Set.univ none
    (.op (.customCall (Pipeline.entry 0) ()) fun _ => .ret ⟨⟩ : Prog (TpuEff nD τ sig (Elt F) (ΛP (F := F)) .tc) PUnit) Φ
  let Rg := reg (atTc W) b adm₀ (atTc Wp) (fun _ => iprop(emp)) hout (fun c r hr => hne c _ fun h => hr (Proc.devRef_injective _ h))
  have hpre : Rg.pre d = iprop(unscopedBufs d (atTc W d) ∗ iprop(emp) ∗ ∃ X, ⌜(K (F := F)).WBelow (T d) X b⌝ ∗ owes (T d) (0 : CellTallies nD τ sig (HIx 1)) X) := rfl
  have hpost : Rg.post d = iprop(unscopedBufs d (atTc Wp d) ∗ iprop(emp) ∗ ∃ X, ⌜(K (F := F)).WBelow (T d) X b⌝ ∗ owes (T d) (0 : CellTallies nD τ sig (HIx 1)) X) := rfl
  have hR := Pipeline.RegionSeg.wp (pcfgs (F := F)) adm₀ (pdats (atTc W) b adm₀) (default : HIx 1) cellOf_inj (EP (F := F)) defs₀ 𝒱₀
    (K (F := F)).L (K (F := F)).lev
    Rg d none (fun _ h => nomatch h) (fun _ => .ret ⟨⟩) Φ
  rw [hpre, hpost, unscoped_held, unscoped_held] at hR
  refine BIBase.Entails.trans ?_ (hR.trans hL)
  unfold G
  iintro ⟨Hk, Hb, Hh, HO, Hlev, Hc, Ht⟩
  isplitl [Hk]
  · iintro ⟨Hb, Hh, -, HO⟩
    rw [wp_ret]; imodintro
    iapply Hk
    isplitl [Hb]; · iexact Hb
    isplitl [Hh]; · iexact Hh
    iexact HO
  isplitl [Hb]; · iexact Hb
  isplitl [Hh HO]
  · isplitl [Hh]; · iexact Hh
    isplitr; · iempintro
    iexact HO
  isplitl [Hlev]; · iexact Hlev
  isplitl [Hc] <;> iassumption

/-! ## @main on the TensorCore -/

abbrev PP : (K (F := F)).Pay (nD := nD) (Val := Elt F) (Name := ℕ) (U := UU) := P (lab m) (flat m) (out m)

/-- What @main leaves the claims: the arguments at their launch contents, the result at the loss. -/
abbrev FIN (d : Dev nD) : sProp 𝕄 :=
  iprop((aLoc d ↦{fullShare} m (aLoc d)) ∗ (lLoc d ↦{fullShare} m (lLoc d)) ∗ rLoc d ↦{fullShare} (fun _ => loss m d))

theorem held_V5 (d : Dev nD) :
    (held (T d) S7 (V5 m d) : sProp 𝕄)
      = iprop((aLoc d ↦{fullShare} m (aLoc d)) ∗ (lLoc d ↦{fullShare} m (lLoc d)) ∗ (xLoc d ↦{fullShare} V5 m d x') ∗ (oLoc d ↦{fullShare} V5 m d o')
          ∗ ((SparseCore.T d).loc main_v2 ↦{fullShare} V5 m d g') ∗ ((SparseCore.T d).loc main_v3 ↦{fullShare} V5 m d s') ∗ rLoc d ↦{fullShare} (fun _ => loss m d)) := by
  rw [held_S7, V5_a, V5_l, V5_r]

/-- After the last call the TensorCore owes nothing: its state is that bound and a rest. -/
theorem tcSt_end (d : Dev nD) : ∃ (b : ℕ) (R : sProp 𝕄),
    (K (F := F)).tcSt EH d 1 = iprop((∃ X, ⌜(K (F := F)).WBelow (T d) X b⌝ ∗ owes (T d) (0 : CellTallies nD τ sig (HIx 1)) X) ∗ R) :=
  ⟨_, _, by unfold SparseCore.Cfg.tcSt; rw [(K (F := F)).Otc_end d (le_refl 1)]⟩

/-- @main on device `d`'s TensorCore: the flattening, the SparseCore call, the reshape, the TensorCore call, the last
    reshape; the arguments and the loss kept. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨b, R, hst⟩ := tcSt_end (F := F) d
  unfold SparseCore.Cfg.tcRes SparseCore.Cfg.tcEnd
  rw [show (unscopedBufs d (fun b => m ((SparseCore.T d).loc b)) : sProp 𝕄) = held (T d) S7 (V0 m d) from unscoped_held d (V0 m)]
  simp only [main, wp_bind, wp_pure]
  iintro ⟨#Hctx, Hst, ⟨Hb, Hheld, Hts, -⟩, HG⟩
  ihave Hlev := (SparseCore.Cfg.ctx_levAts κ) $$ Hctx
  iapply (wp_hlo_within 𝒱 (SparseCore.T d) none Set.univ (op := opFlat) (S := S7) hFlat (V := V0 m d)) $$ [Hb Hheld]
  · isplitl [Hb] <;> iassumption
  iintro ⟨Hb, Hheld⟩
  rw [wp_ret]; imodintro
  -- the SparseCore call: the labels, the flattened logits and the result to the SparseCores and back
  ihave Hh := (Entails.of_eq (show (held (SparseCore.T d) S7 ((opFlat (F := F)).result (V0 m d)) : sProp 𝕄) = _ from held_V1 m d)) $$ Hheld
  icases Hh with ⟨Ha, Hl, Hx, Ho, Hg, Hs, Hr⟩
  iapply ((K (F := F)).wp_run (D (F := F)) 𝒱 (EH := EH) (P := PP m) κ d 0) $$ [Hst Ha Hl Hx Ho Hg Hs Hr Hb Hts HG]
  isplitr; · iexact Hctx
  isplitl [Hst]; · iexact Hst
  isplitl [Hl Hx Ho]
  · rw [st0_eq]
    isplitl [Hl]; · iexact Hl
    isplitl [Hx]; · iexact Hx
    iexact Ho
  iintro ⟨Hst, Hdn⟩
  ihave Hdn' := (Entails.of_eq (dn0_eq (lab m) (flat m) (out m) d)) $$ Hdn
  icases Hdn' with ⟨Hl, Hx, Ho⟩
  ihave Hheld := (Entails.of_eq (held_V2 (F := F) m d).symm) $$ [Ha Hl Hx Ho Hg Hs Hr]
  · isplitl [Ha]; · iexact Ha
    isplitl [Hl]; · iexact Hl
    isplitl [Hx]; · iexact Hx
    isplitl [Ho]; · iexact Ho
    isplitl [Hg]; · iexact Hg
    isplitl [Hs]; · iexact Hs
    iexact Hr
  -- the gathered logits as a column
  iapply (wp_hlo_within 𝒱 (SparseCore.T d) none Set.univ (op := opCol) (S := S7) hCol (V := V2 m d)) $$ [Hb Hheld]
  · isplitl [Hb] <;> iassumption
  iintro ⟨Hb, Hheld⟩
  rw [wp_ret]; imodintro
  -- the TensorCore call
  ihave Hst' := (Entails.of_eq (show (K (F := F)).tcSt EH d ((0 : Fin 1).val + 1) = _ from hst)) $$ Hst
  icases Hst' with ⟨HO, Hst'⟩
  iapply (wp_sweep (V3 m) (V4 m) b (V4_s m) (V4_ne m) d)
  isplitl [Hst' Hts]
  · iintro ⟨Hb, Hheld, HO⟩
    iapply (wp_hlo_within 𝒱 (SparseCore.T d) none Set.univ (op := opOut) (S := S7) hOut (V := V4 m d)) $$ [Hb Hheld]
    · isplitl [Hb] <;> iassumption
    iintro ⟨Hb, Hheld⟩
    ihave Hh := (Entails.of_eq (show (held (SparseCore.T d) S7 ((opOut (F := F)).result (V4 m d)) : sProp 𝕄) = _ from held_V5 m d)) $$ Hheld
    icases Hh with ⟨Ha, Hl, -, -, -, -, Hr⟩
    rw [wp_ret]; imodintro; imodintro
    isplitl [HO Hst']
    · rw [hst]
      isplitl [HO]; · iexact HO
      iexact Hst'
    isplitl [Ha Hl Hr]
    · isplitl [Ha]; · iexact Ha
      isplitl [Hl]; · iexact Hl
      iexact Hr
    isplitl [Hb] <;> iassumption
  isplitl [Hb]; · iexact Hb
  isplitl [Hheld]; · iexact Hheld
  isplitl [HO]; · iexact HO
  isplitl [Hlev]; · iexact Hlev
  iexact HG

/-! ## The launch element of the certificate's ghost state -/

def u₀ : UU := (initOf (K (F := F)).hsCells (K (F := F)).hsToks,
  (initOf (Pipeline.cells (Pipeline.pin (pcfgs (F := F)) adm₀) cellOf_inj) (Pipeline.launchToks (Pipeline.pin (pcfgs (F := F)) adm₀) cellOf_inj), 1))

/-- One device, one pipeline: the pipelines' ghost state is that device's. -/
theorem deal :
    iprop((bigSep Finset.univ fun c : Dev nD => bigSep Finset.univ fun p : Fin 1 => Pipeline.cellsGhost (Pipeline.pin (pcfgs (F := F)) adm₀) (EP (F := F)) p c)
        ∗ (bigSep Finset.univ fun c : Dev nD => bigSep Finset.univ fun p : Fin 1 => Pipeline.toksInit (Pipeline.pin (pcfgs (F := F)) adm₀) (EP (F := F)) p c))
      ⊢ (bigSep Finset.univ fun d : Dev nD => G (F := F) d : sProp 𝕄) := by
  rw [bigSep_univ_of_subsingleton (0 : Dev nD), bigSep_univ_of_subsingleton (0 : Dev nD), bigSep_univ_of_subsingleton (0 : Dev nD),
    bigSep_univ_of_subsingleton (0 : Fin 1), bigSep_univ_of_subsingleton (0 : Fin 1)]
  exact Entails.rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  ihave HP := (Entails.of_eq (show (BI.own (((Emb.inl : Emb (UR sig nD τ) (UR sig nD τ × Counters)).trans embR) _) : sProp 𝕄) = BI.own (EP (F := F) _) from rfl)) $$ HP
  imod (Pipeline.fund_ghost (Pipeline.pin (pcfgs (F := F)) adm₀) (EP (F := F)) cellOf_inj) $$ HP with Hf
  icases Hf with ⟨Hc, Ht⟩
  imodintro
  isplitl [HH]; · iexact HH
  isplitl [Hc Ht]
  · iapply deal; isplitl [Hc] <;> iassumption
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## The program's run -/

/-- What the claims read of device `d`'s final state: the result at the loss, the arguments at their launch contents. -/
def fq (d : Dev nD) (s : Phys nD τ sig (Elt F)) : Prop :=
  s.mem.mem (rLoc d) = (fun _ => loss m d) ∧ s.mem.mem (aLoc d) = m (aLoc d) ∧ s.mem.mem (lLoc d) = m (lLoc d)

theorem hfin (d : Dev nD) (s : Phys nD τ sig (Elt F)) : iprop(FIN m d ∗ SI s) ⊢ (⌜fq m d s⌝ : sProp 𝕄) := by
  iintro ⟨⟨Ha, Hl, Hr⟩, HSI⟩
  ihave H := (persistent_entails_right (SI_pointsTo_agree (st := s) (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s) (ℓ := lLoc d) (I := Finset.univ) (q := fullShare) (f := m (lLoc d)))) $$ [HSI Hl]
  · isplitl [HSI] <;> iassumption
  icases H with ⟨%hl, HSI, -⟩
  ihave H := (SI_pointsTo_agree (st := s) (ℓ := rLoc d) (I := Finset.univ) (q := fullShare) (f := fun _ => loss m d)) $$ [HSI Hr]
  · isplitl [HSI] <;> iassumption
  icases H with %hr
  ipureintro
  exact ⟨funext fun i => hr i (Finset.mem_univ i), funext fun i => ha i (Finset.mem_univ i), funext fun i => hl i (Finset.mem_univ i)⟩

/-- What the run leaves: on every device the result at the loss, the arguments as launched; every counter at zero. -/
def QC : PUnit × MemSt nD τ sig (Elt F) → Prop := fun r =>
  (∀ c : Dev nD, r.2.mem (rLoc c) = (fun _ => loss m c) ∧ r.2.mem (aLoc c) = m (aLoc c) ∧ r.2.mem (lLoc c) = m (lLoc c)) ∧ r.2.sem = fun _ => 0

/-- The program's run, every label a column. -/
theorem run_main [∀ e, Nonempty (Elt F e)] (hpre : LabelsOK (lab m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (lab m) (flat m) (out m) facts hpre)
    (fun q _ => match q with | 0 => SparseCore.Cfg.VecSplit.of_plain (vecSplit (lab m) (flat m) (out m)))
    m ρ main (G (F := F)) (FIN m) (u₀ (F := F)) (sep_elim_left.trans (hu₀ m)) (hmain m ρ) (fq m) (hfin m) (QC m) (fun _ h hz => ⟨h, hz⟩)

end Cert.Proof.KernelIdeal

end
-- ==== Proof.Frames.lean ====
/-
  The frames: both kernels and the reference terminate, leave their arguments as they were and every counter at zero.
-/
module

public import proofs.«01_k».proof.Proof.Inputs
public import proofs.«01_k».proof.Proof.Kernel.Run
public import proofs.«01_k».proof.Proof.KernelIdeal.Run
public import proofs.«01_k».proof.Proof.Gen.ReferenceIdeal.Run
public import Idealize.ShloMosaic.Lib.Quiescent

@[expose] public section

noncomputable section

namespace Cert.Proof

open Idealize.ShloMosaic Idealize.SL.Sem

/-- The kernel, at the machine's floats, under `labels_in_range`. -/
theorem frame_kernel : Cert.quiescent_Kernel := fun m g hpre =>
  (θ_run _ _ _).mono (fun _ h => ⟨fun c => (h.1 c).2, h.2⟩) (Kernel.run_main m g fun d j => labels_of_range (hpre d) j)

/-- The idealized kernel, under `labels_in_range`. -/
theorem frame_ideal : Cert.quiescent_KernelIdeal := fun m g hpre =>
  (θ_run _ _ _).mono (fun _ h => ⟨fun c => (h.1 c).2, h.2⟩) (KernelIdeal.run_main m g fun d j => labels_of_range (hpre d) j)

/-- The idealized kernel, under `cosines`. -/
theorem frame_ideal_cosines : Cert.quiescent_KernelIdeal_pre_cosines := fun m g hpre =>
  (θ_run _ _ _).mono (fun _ h => ⟨fun c => (h.1 c).2, h.2⟩) (KernelIdeal.run_main m g fun d j => labels_of_cosines (hpre d) j)

/-- The reference, from any memory: it declares no counter. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- And so under `cosines`. -/
theorem frame_reference_cosines : Cert.quiescent_ReferenceIdeal_pre_cosines := fun m g _ =>
  (θ_run _ _ _).mono (fun r h => ⟨fun c => (h c).2, sem_eq_zero_of_no_sems (by decide) r.2⟩) (Cert.ReferenceIdeal.Value.run m g)

/-- The one rewritten constant is a word of the kernel, named at a real number. -/
theorem preserves : Cert.preserves_Kernel_KernelIdeal :=
  IdealRules.named_const.statement Cert.KernelIdeal.κ "keep" .f32 0x3F7D70A4#32 ((531502203 / 536870912 : ℝ) : EReal) rfl

end Cert.Proof

end
-- ==== Proof.Spec.lean ====
/-
  The loss in real numbers, as the kernel sums it and as the reference does, and the equation of the two.
-/
module

public import proofs.«01_k».proof.Proof.Consts
public import Mathlib.Analysis.SpecialFunctions.Log.Basic

@[expose] public section

noncomputable section

namespace Cert.Proof

open Idealize.ShloMosaic

/-- The cosine of the angle grown by the margin ½: `g cos ½ − √(1 − g²) sin ½`. -/
def ctm (g : ℝ) : ℝ := g * cosR - √(1 - g * g) * sinR
/-- A logit modulated: multiplied by `t + v` when it is above the label's margin cosine `c`. -/
def md (t v c : ℝ) : ℝ := if c < v then v * (t + v) else v
/-- The threshold: the running mean of the labels' logits, weighted α, begun at one. -/
def tnew (g : Fin 1024 → ℝ) : ℝ := (∑ r, g r) * (alphaR / 1024) + (1 - alphaR)
/-- One term of the softmax denominator as the kernel takes it, scaled by 64 and shifted by 128. -/
def term (t v c : ℝ) : ℝ := Real.exp (md t v c * 64 - 128)
/-- One row's loss as the kernel takes it. -/
def rowLoss (t s g : ℝ) : ℝ :=
  128 + Real.log (s - term t g (ctm g) + Real.exp (ctm g * 64 - 128)) - 64 * ctm g
/-- The mean loss as the kernel sums it. -/
def kernelLoss (x : Fin 1024 → Fin 100000 → ℝ) (lab : Fin 1024 → Fin 100000) : ℝ :=
  ∑ r, rowLoss (tnew fun r => x r (lab r)) (∑ c, term (tnew fun r => x r (lab r)) (x r c) (ctm (x r (lab r)))) (x r (lab r)) * (1 / 1024)

/-- The scaled logit of the reference: the margin cosine at the label, the modulated logit elsewhere, times 64. -/
def refLogit (t : ℝ) (v : Fin 100000 → ℝ) (l c : Fin 100000) : ℝ := 64 * (if c = l then ctm (v l) else md t (v c) (ctm (v l)))
/-- The mean loss as the reference sums it. -/
def refLoss (x : Fin 1024 → Fin 100000 → ℝ) (lab : Fin 1024 → Fin 100000) : ℝ :=
  (∑ r, (Real.log (∑ c, Real.exp (refLogit (tnew fun r => x r (lab r)) (x r) (lab r) c)) - 64 * ctm (x r (lab r)))) / 1024

/-- The reference's denominator is the kernel's, with the label's own term exchanged and the shift taken off. -/
theorem sum_refLogit (t : ℝ) (v : Fin 100000 → ℝ) (l : Fin 100000) :
    ∑ c, Real.exp (refLogit t v l c)
      = Real.exp 128 * ((∑ c, term t (v c) (ctm (v l))) - term t (v l) (ctm (v l)) + Real.exp (ctm (v l) * 64 - 128)) := by
  have e : ∀ c, Real.exp (refLogit t v l c) = Real.exp 128 * (if c = l then Real.exp (ctm (v l) * 64 - 128) else term t (v c) (ctm (v l))) := by
    intro c
    unfold refLogit term
    split <;> rw [← Real.exp_add] <;> congr 1 <;> ring
  rw [Finset.sum_congr rfl fun c _ => e c, ← Finset.mul_sum, ← Finset.add_sum_erase _ _ (Finset.mem_univ l),
    ← Finset.add_sum_erase _ (fun c => term t (v c) (ctm (v l))) (Finset.mem_univ l), if_pos rfl,
    Finset.sum_congr rfl fun c hc => if_neg (Finset.ne_of_mem_erase hc)]
  congr 1; ring

/-- The kernel's denominator is positive. -/
theorem denom_pos (t : ℝ) (v : Fin 100000 → ℝ) (l : Fin 100000) :
    0 < (∑ c, term t (v c) (ctm (v l))) - term t (v l) (ctm (v l)) + Real.exp (ctm (v l) * 64 - 128) := by
  have h : 0 < Real.exp 128 * ((∑ c, term t (v c) (ctm (v l))) - term t (v l) (ctm (v l)) + Real.exp (ctm (v l) * 64 - 128)) := by
    rw [← sum_refLogit]
    exact Finset.sum_pos (fun c _ => Real.exp_pos _) ⟨l, Finset.mem_univ l⟩
  exact pos_of_mul_pos_right h (Real.exp_pos _).le

/-- The two losses are one. -/
theorem kernelLoss_eq (x : Fin 1024 → Fin 100000 → ℝ) (lab : Fin 1024 → Fin 100000) : kernelLoss x lab = refLoss x lab := by
  unfold kernelLoss refLoss
  rw [Finset.sum_div]
  refine Finset.sum_congr rfl fun r _ => ?_
  unfold rowLoss
  rw [sum_refLogit, Real.log_mul (Real.exp_pos _).ne' (denom_pos _ _ _).ne', Real.log_exp]
  ring

/-! ## The same over the extended reals -/

/-- The margin cosine of a real of [−1, 1]. -/
theorem ctm_coe {g : ℝ} (h : -1 ≤ g ∧ g ≤ 1) :
    (g : EReal) * Ideal.ofBits .f32 0x3F60A940#32 - Ideal.sqrt (1 - (g : EReal) * (g : EReal)) * Ideal.ofBits .f32 0x3EF57744#32 = ((ctm g : ℝ) : EReal) := by
  have h1 : ¬ (1 - g * g < 0) := by nlinarith [h.1, h.2]
  have hs : (1 : EReal) - (g : EReal) * (g : EReal) = ((1 - g * g : ℝ) : EReal) := by norm_cast
  rw [ofBits_cos, ofBits_sin, hs, Ideal.sqrt_coe, if_neg h1]
  norm_cast

/-- A logit modulated. -/
theorem md_coe (t v c : ℝ) : (if (c : EReal) < (v : EReal) then (v : EReal) * ((t : EReal) + (v : EReal)) else (v : EReal)) = ((md t v c : ℝ) : EReal) := by
  unfold md
  by_cases h : c < v
  · rw [if_pos h, if_pos (EReal.coe_lt_coe_iff.2 h)]; norm_cast
  · rw [if_neg h, if_neg (fun h' => h (EReal.coe_lt_coe_iff.1 h'))]

end Cert.Proof

end
-- ==== Proof.KernelIdeal.Payload.lean ====
/-
  The idealized kernel's TensorCore payloads in real numbers: the block of the labels' logits, the threshold, the margin
  cosines, the masked terms, the running sums, the share a block of rows adds to the result.
-/
module

public import proofs.«01_k».proof.Proof.KernelIdeal.Region
public import proofs.«01_k».proof.Proof.Spec
public import Idealize.ShloMosaic.Lib.Pointwise

@[expose] public section

noncomputable section

namespace Cert.Proof.KernelIdeal

open Cert.KernelIdeal Cert.KernelIdeal.Gen Idealize.ShloMosaic
open Idealize.ShloMosaic.WordCmp

/-- Row `p` of row block `I`. -/
def rowOf (I : ℕ) (p : Fin 128) : Fin 1024 := ⟨(128 * I + p.val) % 1024, Nat.mod_lt _ (by norm_num)⟩

/-- The term of column `n`, zero past the last one. -/
def mterm (t c : ℝ) (v : Fin 100000 → ℝ) (n : ℕ) : ℝ := if h : n < 100000 then term t (v ⟨n, h⟩) c else 0

variable {G : Vec Ideal S1024x1 .f32} {g : Fin 1024 → ℝ}

/-- The block a point reads of the labels' logits. -/
theorem stV8_at (hG : ∀ r, G (ix2 r (0 : Fin 1)) = ((g r : ℝ) : EReal)) (i : grid1.Coords) (p : Fin 128) :
    stV8 i G (ix2 p (0 : Fin 1)) = ((g (rowOf (i 0).val p) : ℝ) : EReal) := by
  rw [← hG]
  have hi : (i 0).val < 8 := (i 0).isLt
  have hp := p.isLt
  refine congrArg G (funext fun a => Fin.ext ?_)
  show k1_off1 i a + 1 * ((ix2 p (0 : Fin 1)) a).val = _
  rw [k1_off1_eq]
  match a with
  | ⟨0, _⟩ =>
    show 128 * (i 0).val + 1 * p.val = (128 * (i 0).val + p.val) % 1024
    omega
  | ⟨1, _⟩ => rfl

/-- The threshold word set at the first point. -/
theorem pay5_at (hG : ∀ r, G (ix2 r (0 : Fin 1)) = ((g r : ℝ) : EReal)) : k1_pay5 (F := Ideal) G = ((tnew g : ℝ) : EReal) := by
  have e : k1_pay5 (F := Ideal) G = (∑ r : Fin 1024, G (ix2 r (0 : Fin 1))) * Ideal.ofBits .f32 0x3723D70A#32 + Named.named κ "keep" 0x3F7D70A4#32 := by
    pointwise [k1_pay5]
    simp only [Fin.sum_univ_one]
  have hk : (Named.named κ "keep" 0x3F7D70A4#32 : Ideal .f32) = (((1 - alphaR : ℝ)) : EReal) :=
    (IdealRules.named_const.ideal_named_scalar _ _ _ _ rfl).trans (by rw [keep_eq])
  rw [e, hk, Finset.sum_congr rfl fun r _ => hG r, coe_sum, ofBits_alpha_1024]
  norm_cast

/-- A scaled and shifted exponential. -/
theorem exp_coe' (v : ℝ) : Ideal.exp ((v : EReal) * Ideal.ofBits .f32 0x42800000#32 - Ideal.ofBits .f32 0x43000000#32) = ((Real.exp (v * 64 - 128) : ℝ) : EReal) := by
  rw [ofBits_64, ofBits_128, ← EReal.coe_mul, ← EReal.coe_sub, Ideal.exp_coe]

variable {v8 : Vec Ideal S128x1 .f32} {b : Fin 128 → ℝ}

/-- The margin cosines of a block. -/
theorem pay7_at (h8 : ∀ p, v8 (ix2 p (0 : Fin 1)) = ((b p : ℝ) : EReal)) (hb : ∀ p, -1 ≤ b p ∧ b p ≤ 1) (p : Fin 128) :
    k1_pay7 (F := Ideal) v8 (ix2 p (0 : Fin 1)) = ((ctm (b p) : ℝ) : EReal) := by
  pointwise [k1_pay7, k1_pay6]
  rw [h8]
  exact ctm_coe (hb p)

theorem pay6_at (h8 : ∀ p, v8 (ix2 p (0 : Fin 1)) = ((b p : ℝ) : EReal)) (p : Fin 128) :
    k1_pay6 (F := Ideal) v8 (ix2 p (0 : Fin 1)) = ((b p : ℝ) : EReal) := by
  rw [← h8]
  pointwise [k1_pay6]

/-- The masked terms of a block. -/
theorem pay8_at (h8 : ∀ p, v8 (ix2 p (0 : Fin 1)) = ((b p : ℝ) : EReal)) (hb : ∀ p, -1 ≤ b p ∧ b p ≤ 1) (t : ℝ) (i : grid1.Coords)
    (X : Vec Ideal S128x4096 .f32) (x : Fin 128 → Fin 100000 → ℝ)
    (hX : ∀ (p : Fin 128) (y : Fin 4096) (h : (i 1).val * 4096 + y.val < 100000), X (ix2 p y) = ((x p ⟨(i 1).val * 4096 + y.val, h⟩ : ℝ) : EReal))
    (p : Fin 128) (q : Fin 32) (l : Fin 128) :
    k1_pay8 (F := Ideal) i ((t : ℝ) : EReal) v8 X (ix3 p q l) = ((mterm t (ctm (b p)) (x p) ((i 1).val * 4096 + (q.val * 128 + l.val)) : ℝ) : EReal) := by
  have hi : (i 1).val < 25 := (i 1).isLt
  have hq := q.isLt
  have hl := l.isLt
  have hw : IntOp.addi (Scalar.muli (BitVec.ofNat 32 (i 1).val) 4096#32) (BitVec.ofNat 32 (q.val * 128 + l.val)) = BitVec.ofNat 32 ((i 1).val * 4096 + (q.val * 128 + l.val)) := by
    simp only [BitVec.ofNat_add, BitVec.ofNat_mul]
    rfl
  have hm : IntOp.cmpi .slt (BitVec.ofNat 32 ((i 1).val * 4096 + (q.val * 128 + l.val))) 100000#32 = 1#1 ↔ (i 1).val * 4096 + (q.val * 128 + l.val) < 100000 :=
    cmpi_slt_ofNat_eq_one_iff (a := (i 1).val * 4096 + (q.val * 128 + l.val)) (b := 100000) (by omega) (by norm_num)
  pointwise [k1_pay8]
  rw [hw, pay7_at h8 hb]
  unfold mterm
  by_cases h : (i 1).val * 4096 + (q.val * 128 + l.val) < 100000
  · rw [dif_pos h, hX p ⟨q.val * 128 + l.val, by omega⟩ h]
    refine (if_pos (hm.2 h)).trans ?_
    rw [md_coe, exp_coe']
    rfl
  · rw [dif_neg h]
    exact (if_neg (mt hm.1 h)).trans EReal.coe_zero.symm

/-- The share of a row: its loss. -/
theorem row_coe (t s w : ℝ) (hs : 0 < s - term t w (ctm w) + Real.exp (ctm w * 64 - 128)) :
    Ideal.ofBits .f32 0x43000000#32
        + Ideal.log ((s : EReal)
          - Ideal.exp ((if ((ctm w : ℝ) : EReal) < (w : EReal) then (w : EReal) * ((t : EReal) + (w : EReal)) else (w : EReal)) * Ideal.ofBits .f32 0x42800000#32 - Ideal.ofBits .f32 0x43000000#32)
          + Ideal.exp (((ctm w : ℝ) : EReal) * Ideal.ofBits .f32 0x42800000#32 - Ideal.ofBits .f32 0x43000000#32))
        - Ideal.ofBits .f32 0x42800000#32 * ((ctm w : ℝ) : EReal)
      = ((rowLoss t s w : ℝ) : EReal) := by
  rw [md_coe, exp_coe', exp_coe', ← EReal.coe_sub, ← EReal.coe_add, Ideal.log_coe]
  have hs' : ¬ (s - Real.exp (md t w (ctm w) * 64 - 128) + Real.exp (ctm w * 64 - 128) ≤ 0) := not_le.2 hs
  rw [if_neg hs', ofBits_64, ofBits_128]
  norm_cast

/-- The result word after the last block of columns: the rows' losses added, each divided by 1024. -/
theorem pay4_at (t : ℝ) (v6 v7 : Vec Ideal S128x1 .f32) (h6 : ∀ p, v6 (ix2 p (0 : Fin 1)) = ((b p : ℝ) : EReal))
    (h7 : ∀ p, v7 (ix2 p (0 : Fin 1)) = ((ctm (b p) : ℝ) : EReal)) (a : Vec Ideal S128x128 .f32) (s : Fin 128 → Fin 128 → ℝ)
    (ha : ∀ p l, a (ix2 p l) = ((s p l : ℝ) : EReal)) (o : ℝ)
    (hs : ∀ p, 0 < (∑ l, s p l) - term t (b p) (ctm (b p)) + Real.exp (ctm (b p) * 64 - 128)) :
    k1_pay4 (F := Ideal) ((t : ℝ) : EReal) v6 v7 a ((o : ℝ) : EReal) = ((o + (∑ p, rowLoss t (∑ l, s p l) (b p)) * (1 / 1024) : ℝ) : EReal) := by
  have e : ∀ p : Fin 128, Ideal.ofBits .f32 0x43000000#32
        + Ideal.log ((∑ l : Fin 128, a (ix2 p l))
          - Ideal.exp ((if v7 (ix2 p (0 : Fin 1)) < v6 (ix2 p (0 : Fin 1)) then v6 (ix2 p (0 : Fin 1)) * (((t : ℝ) : EReal) + v6 (ix2 p (0 : Fin 1))) else v6 (ix2 p (0 : Fin 1))) * Ideal.ofBits .f32 0x42800000#32 - Ideal.ofBits .f32 0x43000000#32)
          + Ideal.exp (v7 (ix2 p (0 : Fin 1)) * Ideal.ofBits .f32 0x42800000#32 - Ideal.ofBits .f32 0x43000000#32))
        - Ideal.ofBits .f32 0x42800000#32 * v7 (ix2 p (0 : Fin 1))
      = ((rowLoss t (∑ l, s p l) (b p) : ℝ) : EReal) := by
    intro p
    rw [Finset.sum_congr rfl fun l _ => ha p l, coe_sum, h6, h7]
    exact row_coe t _ _ (hs p)
  pointwise [k1_pay4]
  simp only [Fin.sum_univ_one]
  rw [Finset.sum_congr rfl fun p _ => e p, coe_sum, ofBits_inv1024]
  norm_cast

/-- The running sums begun at the first block of columns. -/
theorem pay2_at (v : FVec Ideal S128x32x128 .f32) (s : Fin 128 → Fin 32 → Fin 128 → ℝ) (hv : ∀ p q l, v (ix3 p q l) = ((s p q l : ℝ) : EReal))
    (p l : Fin 128) : k1_pay2 (F := Ideal) v (ix2 p l) = ((∑ q, s p q l : ℝ) : EReal) := by
  rw [← coe_sum, ← Finset.sum_congr rfl fun q _ => hv p q l]
  pointwise [k1_pay2, k1_pay1]

/-- The running sums added to at a later one. -/
theorem pay3_at (v : FVec Ideal S128x32x128 .f32) (s : Fin 128 → Fin 32 → Fin 128 → ℝ) (hv : ∀ p q l, v (ix3 p q l) = ((s p q l : ℝ) : EReal))
    (a : Vec Ideal S128x128 .f32) (p l : Fin 128) (w : ℝ) (ha : a (ix2 p l) = ((w : ℝ) : EReal)) :
    k1_pay3 (F := Ideal) v a (ix2 p l) = ((w + ∑ q, s p q l : ℝ) : EReal) := by
  rw [EReal.coe_add, ← coe_sum, ← Finset.sum_congr rfl fun q _ => hv p q l, ← ha]
  pointwise [k1_pay3, k1_pay1]

end Cert.Proof.KernelIdeal

end
-- ==== Proof.KernelIdeal.Value.lean ====
/-
  What the idealized kernel computes, in real numbers: the state of the sweep before every point, and the loss after the
  last.
-/
module

public import proofs.«01_k».proof.Proof.KernelIdeal.Payload

@[expose] public section

noncomputable section

namespace Cert.Proof.KernelIdeal

open Cert.KernelIdeal Cert.KernelIdeal.Gen Idealize.ShloMosaic
open Idealize.ShloMosaic.TcCoe

/-! ## Sums over a range cut into blocks -/

/-- A sum over `a` blocks of `b` is the sum over their range. -/
theorem sum_blocks (a b : ℕ) (f : ℕ → ℝ) : ∑ i ∈ Finset.range a, ∑ j : Fin b, f (b * i + j.val) = ∑ n ∈ Finset.range (b * a), f n := by
  induction a with
  | zero => simp
  | succ a ih =>
    rw [Finset.sum_range_succ, ih, Nat.mul_succ, Finset.sum_range_add, Fin.sum_univ_eq_sum_range (fun j => f (b * a + j))]

/-- The 128 lanes' running sums over 25 blocks of 32 are the sum over the 102400 padded columns. -/
theorem sum_lanes (f : ℕ → ℝ) :
    ∑ l : Fin 128, ∑ j ∈ Finset.range 25, ∑ q : Fin 32, f (j * 4096 + (q.val * 128 + l.val)) = ∑ n ∈ Finset.range 102400, f n := by
  have h1 : ∀ j, ∑ l : Fin 128, ∑ q : Fin 32, f (j * 4096 + (q.val * 128 + l.val)) = ∑ y : Fin 4096, f (4096 * j + y.val) := by
    intro j
    rw [Finset.sum_comm]
    have h2 := sum_blocks 32 128 (fun n => f (4096 * j + n))
    rw [← Fin.sum_univ_eq_sum_range (fun q => ∑ l : Fin 128, f (4096 * j + (128 * q + l.val))), ← Fin.sum_univ_eq_sum_range (fun n => f (4096 * j + n))] at h2
    refine Eq.trans (Finset.sum_congr rfl fun q _ => Finset.sum_congr rfl fun l _ => congrArg f ?_) h2
    ring
  rw [Finset.sum_comm, Finset.sum_congr rfl fun j _ => h1 j, sum_blocks 25 4096 f]

/-- A row's terms: past the last column they are zero. -/
theorem sum_mterm (t c : ℝ) (v : Fin 100000 → ℝ) :
    ∑ l : Fin 128, ∑ j ∈ Finset.range 25, ∑ q : Fin 32, mterm t c v (j * 4096 + (q.val * 128 + l.val)) = ∑ n, term t (v n) c := by
  rw [sum_lanes, show 102400 = 100000 + 2400 from rfl, Finset.sum_range_add,
    Finset.sum_eq_zero (s := Finset.range 2400) fun n _ => dif_neg (by omega), add_zero, ← Fin.sum_univ_eq_sum_range]
  exact Finset.sum_congr rfl fun n _ => dif_pos n.isLt

/-- The 1024 rows in 8 blocks of 128. -/
theorem sum_rows (f : Fin 1024 → ℝ) : ∑ I ∈ Finset.range 8, ∑ p : Fin 128, f (rowOf I p) = ∑ r, f r := by
  refine (sum_blocks 8 128 (fun n => f ⟨n % 1024, Nat.mod_lt _ (by norm_num)⟩)).trans ?_
  rw [show 128 * 8 = 1024 from rfl, ← Fin.sum_univ_eq_sum_range (fun n => f ⟨n % 1024, Nat.mod_lt _ (by norm_num)⟩)]
  exact Finset.sum_congr rfl fun r _ => congrArg f (Fin.ext (Nat.mod_eq_of_lt r.isLt))

/-! ## The block of the logits at a point -/

theorem transform0 : ∀ t : Fin grid1.N, cc1_transform_0 (grid1.coords t) = ![t.val / 25, t.val % 25] := by decide +kernel

variable (V : (c : Dev nD) → (b : Ref sig .tc) → Buf (Elt Ideal) ((c : Thread nD τ).loc b)) (c : Dev nD)

/-- The block at point `t`, read inside the array. -/
theorem xfull_at (X : Vec Ideal S1024x100000 .f32) (hV : V c main_arg0 = X) (t : Fin cfg1.N) (p : Fin 128) (y : Fin 4096)
    (h : (grid1.coords t 1).val * 4096 + y.val < 100000) :
    xfull V c t (ix2 p y) = X (ix2 (rowOf (grid1.coords t 0).val p) ⟨(grid1.coords t 1).val * 4096 + y.val, h⟩) := by
  subst hV
  have hi : (grid1.coords t 0).val < 8 := (grid1.coords t 0).isLt
  have hp := p.isLt
  have hr := coords_row t
  have hc := coords_col t
  unfold xfull Pipeline.Window.fill
  refine (dif_pos (moved0 t (ix2 p y) h)).trans ?_
  unfold xblk
  rw [View.read_apply]
  refine congrArg (V c main_arg0) (funext fun a => Fin.ext ?_)
  show cc1_transform_0 (grid1.coords t) a * S128x4096.size a + 1 * ((ix2 p y) a).val = _
  rw [transform0]
  match a with
  | ⟨0, _⟩ =>
    show t.val / 25 * 128 + 1 * p.val = (128 * (grid1.coords t 0).val + p.val) % 1024
    omega
  | ⟨1, _⟩ =>
    show t.val % 25 * 4096 + 1 * y.val = (grid1.coords t 1).val * 4096 + y.val
    omega

/-! ## The state of the sweep -/

variable (x : Fin 1024 → Fin 100000 → ℝ) (lab : Fin 1024 → Fin 100000)

/-- The threshold, the labels' logits and the margin cosines. -/
abbrev thr : ℝ := tnew fun r => x r (lab r)
/-- A lane's running sum after `k` blocks of columns. -/
def lane (r : Fin 1024) (k : ℕ) (l : Fin 128) : ℝ :=
  ∑ j ∈ Finset.range k, ∑ q : Fin 32, mterm (thr x lab) (ctm (x r (lab r))) (x r) (j * 4096 + (q.val * 128 + l.val))
/-- A row block's share of the result. -/
def share (I : ℕ) : ℝ := (∑ p : Fin 128, rowLoss (thr x lab) (∑ l, lane x lab (rowOf I p) 25 l) (x (rowOf I p) (lab (rowOf I p)))) * (1 / 1024)

theorem lane_total (r : Fin 1024) : ∑ l, lane x lab r 25 l = ∑ n, term (thr x lab) (x r n) (ctm (x r (lab r))) := sum_mterm _ _ _

theorem share_total : ∑ I ∈ Finset.range 8, share x lab I = kernelLoss x lab := by
  unfold share kernelLoss
  rw [← Finset.sum_mul, sum_rows (fun r => rowLoss (thr x lab) (∑ l, lane x lab r 25 l) (x r (lab r))), Finset.sum_mul]
  exact Finset.sum_congr rfl fun r _ => by rw [lane_total]

/-- What the state holds after point `n`: the threshold; the lanes' sums over the row block's columns so far; the shares
    of the row blocks ended. -/
def Holds (n : ℕ) (s : Elt Ideal .f32 × Vec Ideal S128x128 .f32 × Elt Ideal .f32) : Prop :=
  s.1 = ((thr x lab : ℝ) : EReal) ∧ (∀ p l, s.2.1 (ix2 p l) = ((lane x lab (rowOf (n / 25) p) (n % 25 + 1) l : ℝ) : EReal))
    ∧ s.2.2 = ((∑ I ∈ Finset.range ((n + 1) / 25), share x lab I : ℝ) : EReal)

variable {x lab}
variable {X : Vec Ideal S1024x100000 .f32} (hX : ∀ r n, X (ix2 r n) = ((x r n : ℝ) : EReal)) (hb : ∀ r n, -1 ≤ x r n ∧ x r n ≤ 1)
  (hV : V c main_arg0 = X) (hG : ∀ r, gcol V c (ix2 r (0 : Fin 1)) = ((x r (lab r) : ℝ) : EReal))

include hX hb hV hG in
/-- One point moves the state on. -/
theorem holds_step (t : Fin cfg1.N) (s : Elt Ideal .f32 × Vec Ideal S128x128 .f32 × Elt Ideal .f32)
    (hs : t.val ≠ 0 → Holds x lab (t.val - 1) s) : Holds x lab t.val (step (grid1.coords t) (gcol V c) (xfull V c t) s) := by
  have hr := coords_row t
  have hc := coords_col t
  have ht : t.val < 200 := t.isLt
  have h8 := stV8_at hG (grid1.coords t)
  have h8b : ∀ p : Fin 128, -1 ≤ x (rowOf (grid1.coords t 0).val p) (lab (rowOf (grid1.coords t 0).val p)) ∧ x (rowOf (grid1.coords t 0).val p) (lab (rowOf (grid1.coords t 0).val p)) ≤ 1 :=
    fun p => hb _ _
  -- the threshold
  have eT : stT (grid1.coords t) (gcol V c) s.1 = ((thr x lab : ℝ) : EReal) := by
    unfold stT
    split
    · exact pay5_at hG
    · next hn =>
      rw [cond1_iff] at hn
      exact (hs (by omega)).1
  -- the terms
  have eX : ∀ p q l, st39 (grid1.coords t) (gcol V c) s.1 (xfull V c t) (ix3 p q l) = ((mterm (thr x lab) (ctm (x (rowOf (t.val / 25) p) (lab (rowOf (t.val / 25) p)))) (x (rowOf (t.val / 25) p)) (t.val % 25 * 4096 + (q.val * 128 + l.val)) : ℝ) : EReal) := by
    intro p q l
    unfold st39
    rw [eT, pay8_at h8 h8b _ _ _ (fun p => x (rowOf (grid1.coords t 0).val p)) (fun p y h => by rw [xfull_at V c X hV t p y h, hX]), hr, hc]
  -- the running sums
  have eA : ∀ p l, stA (grid1.coords t) (gcol V c) s.1 (xfull V c t) s.2.1 (ix2 p l) = ((lane x lab (rowOf (t.val / 25) p) (t.val % 25 + 1) l : ℝ) : EReal) := by
    intro p l
    unfold stA lane
    rw [Finset.sum_range_succ]
    split
    · next h0 =>
      rw [hc] at h0
      rw [pay2_at _ _ eX, h0, Finset.sum_range_zero, zero_add]
    · next h0 =>
      rw [hc] at h0
      have e := (hs (by omega)).2.1 p l
      rw [show (t.val - 1) / 25 = t.val / 25 by omega, show (t.val - 1) % 25 + 1 = t.val % 25 by omega] at e
      rw [pay3_at _ _ eX _ _ _ _ e]
      rfl
  -- the result word
  have eO0 : stO0 (F := Ideal) (grid1.coords t) s.2.2 = ((∑ I ∈ Finset.range (t.val / 25), share x lab I : ℝ) : EReal) := by
    unfold stO0
    split
    · next h1 =>
      rw [cond1_iff] at h1
      rw [show t.val / 25 = 0 by omega, Finset.sum_range_zero]
      exact ofBits_zero
    · next h1 =>
      rw [cond1_iff] at h1
      have e := (hs (by omega)).2.2
      rwa [show t.val - 1 + 1 = t.val by omega] at e
  refine ⟨eT, eA, ?_⟩
  show stO (grid1.coords t) (gcol V c) s.1 (xfull V c t) s.2.1 s.2.2 = _
  unfold stO
  split
  · next h4 =>
    rw [cond4_iff, hc] at h4
    have e25 : t.val % 25 + 1 = 25 := by omega
    rw [eT, eO0, pay4_at (thr x lab) _ _ (pay6_at h8) (pay7_at h8 h8b) _ (fun p l => lane x lab (rowOf (t.val / 25) p) (t.val % 25 + 1) l) eA _ (fun p => ?_),
      show (t.val + 1) / 25 = t.val / 25 + 1 by omega, Finset.sum_range_succ]
    · simp only [hr, e25]
      rfl
    · simp only [hr, e25, lane_total]
      exact denom_pos (thr x lab) (x (rowOf (t.val / 25) p)) (lab (rowOf (t.val / 25) p))
  · next h4 =>
    rw [cond4_iff, hc] at h4
    rw [eO0, show (t.val + 1) / 25 = t.val / 25 by omega]

include hX hb hV hG in
/-- The state after every point. -/
theorem holds_at (n : ℕ) (h : n < 200) : Holds x lab n (stAt V c (n + 1)) := by
  induction n with
  | zero =>
    rw [stAt_succ V c ⟨0, h⟩]
    exact holds_step V c hX hb hV hG ⟨0, h⟩ _ (fun h0 => absurd rfl h0)
  | succ n ih =>
    rw [stAt_succ V c ⟨n + 1, h⟩]
    exact holds_step V c hX hb hV hG ⟨n + 1, h⟩ _ (fun _ => ih (by omega))

include hX hb hV hG in
/-- The result word after the last point is the kernel's loss. -/
theorem result_at : (stAt V c 200).2.2 = ((kernelLoss x lab : ℝ) : EReal) := by
  rw [(holds_at V c hX hb hV hG 199 (by norm_num)).2.2, ← share_total]

end Cert.Proof.KernelIdeal

end
-- ==== Proof.Reference.Index.lean ====
/-
  The reference's indexing by pairs `[rows, labels]`: what its gather reads and what its scatter writes, when row `r` of the
  index table holds `r` and the label of row `r`.
-/
module

public import proofs.«01_k».proof.Proof.Gen.ReferenceIdeal
public import Idealize.ShloMosaic.Lib.Pointwise
public import Idealize.ShloMosaic.Lib.Routing.OpsSet
public import Idealize.ShloMosaic.Lib.Routing.OpsPair

@[expose] public section

noncomputable section

namespace Cert.Proof.Reference

open Cert.ReferenceIdeal Cert.ReferenceIdeal.Gen Idealize.ShloMosaic

/-- The gather's dimension numbers: single elements, both axes indexed. -/
abbrev gd : GatherDims S1024x100000 S1024x2 S1024 := gather_S1024x100000_S1024x2_S1024_n_01_n_n_01_1_11
/-- The scatter's. -/
abbrev sd : ScatterDims S1024x100000 S1024x2 S1024 := scatter_S1024x100000_S1024x2_S1024_n_01_01_1

theorem ix1_val {n : ℕ} (r : Fin n) (k : Fin 1) : ((ix1 r) k).val = r.val := by
  match k with
  | ⟨0, _⟩ => rfl

theorem gather_siIdx (r : Fin 1024) (q : Fin 2) : gd.siIdx (ix1 r) q = ix2 r q := by
  funext b
  apply Fin.ext
  match b with
  | ⟨0, _⟩ =>
    rfl
  | ⟨1, _⟩ => rfl

theorem scatter_siIdx (r : Fin 1024) (q : Fin 2) : sd.siIdx (ix1 r) q = ix2 r q := by
  funext b
  apply Fin.ext
  match b with
  | ⟨0, _⟩ =>
    rfl
  | ⟨1, _⟩ => rfl

theorem gather_start (idx : IVec S1024x2 32) (r : Fin 1024) (q : Fin 2) :
    gd.start (ix1 r) idx q = min (idx (ix2 r q)).toInt.toNat (S1024x100000.size q - 1) := by
  have hm : ∀ q : Fin 2, q ∈ gd.startIndexMap := by decide
  unfold GatherDims.start
  rw [dif_pos (hm q)]
  have hi : ∀ q : Fin 2, (⟨gd.startIndexMap.idxOf q, List.idxOf_lt_length_iff.2 (hm q)⟩ : Fin gd.startIndexMap.length) = q :=
    fun q => Fin.ext (show gd.startIndexMap.idxOf q = q.val by revert q; decide)
  have hs : ∀ q : Fin 2, gd.sliceSizes q = 1 := by decide
  rw [hi q, gather_siIdx, hs]

theorem scatter_start (idx : IVec S1024x2 32) (r : Fin 1024) (q : Fin 2) : sd.start (ix1 r) idx q = (idx (ix2 r q)).toInt := by
  have hm : ∀ q : Fin 2, q ∈ sd.scatterDimsToOperandDims := by decide
  unfold ScatterDims.start
  rw [dif_pos (hm q)]
  have hi : ∀ q : Fin 2, (⟨sd.scatterDimsToOperandDims.idxOf q, List.idxOf_lt_length_iff.2 (hm q)⟩ : Fin sd.scatterDimsToOperandDims.length) = q :=
    fun q => Fin.ext (show sd.scatterDimsToOperandDims.idxOf q = q.val by revert q; decide)
  rw [hi q, scatter_siIdx]

/-- The gather at row `r` reads the element that row `r` of the table names. -/
theorem gather_pair {α : Type} (x : S1024x100000.Idx → α) (idx : IVec S1024x2 32) (r : Fin 1024) (c : Fin 100000)
    (h0 : (idx (ix2 r (0 : Fin 2))).toInt = r.val) (h1 : (idx (ix2 r (1 : Fin 2))).toInt = c.val) :
    Host.gather gd x idx (ix1 r) = x (ix2 r c) := by
  have hb : ∀ q : Fin 2, gd.batchCoord (ix1 r) q = 0 := fun q => gd.batchCoord_eq_zero _ _ (by revert q; decide)
  have ho : ∀ q : Fin 2, gd.offCoord (ix1 r) q = 0 := fun q => gd.offCoord_eq_zero _ _ (by revert q; decide)
  unfold Host.gather
  refine congrArg x (funext fun a => Fin.ext ?_)
  show gd.start (ix1 r) idx a + gd.batchCoord (ix1 r) a + gd.offCoord (ix1 r) a = _
  rw [hb a, ho a, gather_start]
  match a with
  | ⟨0, _⟩ =>
    show min (idx (ix2 r (0 : Fin 2))).toInt.toNat (1024 - 1) + 0 + 0 = r.val
    rw [h0]; have := r.isLt; omega
  | ⟨1, _⟩ =>
    show min (idx (ix2 r (1 : Fin 2))).toInt.toNat (100000 - 1) + 0 + 0 = c.val
    rw [h1]; have := c.isLt; omega

/-- The update of row `k` lands at the element that row `k` of the table names. -/
theorem scatter_lands (idx : IVec S1024x2 32) (k r : Fin 1024) (c : Fin 100000) :
    sd.resultIdx? (ix1 k) idx = some (ix2 r c) ↔ (idx (ix2 k (0 : Fin 2))).toInt = r.val ∧ (idx (ix2 k (1 : Fin 2))).toInt = c.val := by
  have hw : ∀ q : Fin 2, sd.window (ix1 k) q = 0 := fun q => by
    unfold ScatterDims.window
    rw [dif_neg (by revert q; decide)]
  rw [Routing.resultIdx?_eq_some]
  constructor
  · intro h
    have a := h (0 : Fin 2)
    have b := h (1 : Fin 2)
    rw [hw, scatter_start] at a b
    exact ⟨by simpa using a, by simpa using b⟩
  · rintro ⟨a, b⟩ q
    rw [hw q, scatter_start]
    match q with
    | ⟨0, _⟩ => simpa using a
    | ⟨1, _⟩ => simpa using b

/-- Every index of a vector is `ix1` of its coordinate. -/
theorem exists_ix1 (k : S1024.Idx) : ∃ r : Fin 1024, k = ix1 r := ⟨k 0, funext fun a => by match a with | ⟨0, _⟩ => rfl⟩

/-- The scatter, read at `(r, c)`: the update of row `r` at the label's column, the operand's element elsewhere. -/
theorem scatter_pair {α : Type} (x : S1024x100000.Idx → α) (idx : IVec S1024x2 32) (upd : S1024.Idx → α) (lab : Fin 1024 → Fin 100000)
    (h0 : ∀ r, (idx (ix2 r (0 : Fin 2))).toInt = r.val) (h1 : ∀ r, (idx (ix2 r (1 : Fin 2))).toInt = (lab r).val) (r : Fin 1024) (c : Fin 100000) :
    Host.scatter sd (fun _ b => b) x idx upd (ix2 r c) = if c = lab r then upd (ix1 r) else x (ix2 r c) := by
  by_cases hc : c = lab r
  · rw [if_pos hc]
    refine Routing.scatter_set_hit sd x idx upd _ _ (fun k hk => ?_) (ix1 r) ((scatter_lands idx r r c).2 ⟨h0 r, by rw [h1, hc]⟩)
    obtain ⟨k, rfl⟩ := exists_ix1 k
    have e := ((scatter_lands idx k r c).1 hk).1
    rw [h0] at e
    have : k = r := Fin.ext (by omega)
    rw [this]
  · rw [if_neg hc]
    refine Routing.scatter_set_miss sd x idx upd _ fun k hk => hc ?_
    obtain ⟨k, rfl⟩ := exists_ix1 k
    obtain ⟨e0, e1⟩ := (scatter_lands idx k r c).1 hk
    rw [h0] at e0
    rw [h1] at e1
    have hk' : k = r := Fin.ext (by omega)
    rw [hk'] at e1
    exact Fin.ext (by omega)

end Cert.Proof.Reference

end
-- ==== Proof.Reference.Arrays.lean ====
/-
  The reference's arrays by name, and its result as the last of them.
-/
module

public import proofs.«01_k».proof.Proof.Reference.Index
public import proofs.«01_k».proof.Proof.Gen.ReferenceIdeal.Run

@[expose] public section

noncomputable section

namespace Cert.Proof.Reference

open Cert.ReferenceIdeal Cert.ReferenceIdeal.Gen Idealize.ShloMosaic

variable (X : FVec Ideal S1024x100000 .f32) (L : IVec S1024 32)

/-- The logits clipped to [−1, 1]. -/
def rClip : FVec Ideal S1024x100000 .f32 :=
  minimumf (broadcastInDim S1024x100000 ![] bcast_S_S1024x100000 (id (constant S_ .f32 0x3F800000#32))) (maximumf (broadcastInDim S1024x100000 ![] bcast_S_S1024x100000 (id (constant S_ .f32 0xBF800000#32))) X)
/-- The table of pairs: the row and its label. -/
def rIdx : IVec S1024x2 32 :=
  concatenate S1024x2 1 [⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩, ⟨S1024x1, (broadcastInDim S1024x1 ![0] bcast_S1024_S1024x1_0 (select (cmpi .slt L (broadcastInDim S1024 ![] bcast_S_S1024 (constantI S_ 32 0#32))) (addi L (broadcastInDim S1024 ![] bcast_S_S1024 (constantI S_ 32 100000#32))) L))⟩] concatenates_S1024x1_S1024x1_S1024x2_d1
/-- The labels' logits. -/
def rTl : FVec Ideal S1024x1 .f32 := broadcastInDim S1024x1 ![0] bcast_S1024_S1024x1_0 (Host.gather gd (rClip X) (rIdx L))
/-- The margin cosines. -/
def rCtm : FVec Ideal S1024x1 .f32 :=
  subf (mulf (rTl X L) (broadcastInDim S1024x1 ![] bcast_S_S1024x1 (constant S_ .f32 0x3F60A940#32))) (mulf (Host.sqrt (subf (broadcastInDim S1024x1 ![] bcast_S_S1024x1 (constant S_ .f32 0x3F800000#32)) (mulf (rTl X L) (rTl X L)))) (broadcastInDim S1024x1 ![] bcast_S_S1024x1 (constant S_ .f32 0x3EF57744#32)))
/-- The threshold. -/
def rTnew : FVec Ideal S_ .f32 :=
  addf (mulf (Host.divf (Host.reduceAdd (rTl X L) (constant S_ .f32 0x00000000#32) reducesTo_S1024x1_S_d0_1 h_S_) (constant S_ .f32 0x44800000#32)) (constant S_ .f32 0x3C23D70A#32)) (mulf (subf (constant S_ .f32 0x3F800000#32) (constant S_ .f32 0x3C23D70A#32)) (constant S_ .f32 0x3F800000#32))
/-- The logits modulated. -/
def rMod : FVec Ideal S1024x100000 .f32 :=
  select (cmpf .ogt (rClip X) (broadcastInDim S1024x100000 ![0, 1] bcast_S1024x1_S1024x100000_0_1 (rCtm X L))) (mulf (rClip X) (addf (broadcastInDim S1024x100000 ![] bcast_S_S1024x100000 (rTnew X L)) (rClip X))) (rClip X)
/-- The modulated logits with the margin cosine at the label. -/
def rFin : FVec Ideal S1024x100000 .f32 := Host.scatter sd (fun _ b => b) (rMod X L) (rIdx L) (shapeCast _ (rCtm X L) shapeCasts_S1024x1_S1024)
/-- The scaled logits. -/
def rLogits : FVec Ideal S1024x100000 .f32 := mulf (broadcastInDim S1024x100000 ![] bcast_S_S1024x100000 (constant S_ .f32 0x42800000#32)) (rFin X L)
/-- The sums of an array's rows. -/
def rowSums : FVec Ideal S1024 .f32 := Host.reduceAdd X (constant S_ .f32 0x00000000#32) reducesTo_S1024x100000_S1024_d1 h_S_
/-- The rows' losses. -/
def rNll : FVec Ideal S1024 .f32 := subf (Host.log (rowSums (Host.exp (rLogits X L)))) (Host.gather gd (rLogits X L) (rIdx L))
/-- The mean loss. -/
def rOut : FVec Ideal S_ .f32 := Host.divf (Host.reduceAdd (rNll X L) (constant S_ .f32 0x00000000#32) reducesTo_S1024_S_d0 h_S_) (constant S_ .f32 0x44800000#32)

/-- The reference's result is `rOut` of its arguments. -/
theorem res_eq (m : (ℓ : Loc nD τ sig) → Buf (Elt Ideal) ℓ) (c : Dev nD) :
    Cert.ReferenceIdeal.Value.res_main_v74 m c = rOut (m ((c.tc : Thread nD τ).loc main_arg0)) (m ((c.tc : Thread nD τ).loc main_arg1)) := by
  unfold Cert.ReferenceIdeal.Value.res_main_v74
  rfl

end Cert.Proof.Reference

end
-- ==== Proof.Reference.Value.lean ====
/-
  What the reference computes, in real numbers: with real logits in [−1, 1] and every label a column, its result is
  `refLoss`.
-/
module

public import proofs.«01_k».proof.Proof.Reference.Arrays
public import proofs.«01_k».proof.Proof.Spec
public import Idealize.ShloMosaic.Lib.Pointwise

@[expose] public section

noncomputable section

namespace Cert.Proof.Reference

open Cert.ReferenceIdeal Cert.ReferenceIdeal.Gen Idealize.ShloMosaic

variable {X : FVec Ideal S1024x100000 .f32} {L : IVec S1024 32}
variable {x : Fin 1024 → Fin 100000 → ℝ} {lab : Fin 1024 → Fin 100000}

/-- A word below 2³¹ reads the same signed. -/
theorem toInt_of_lt {w : BitVec 32} {n : ℕ} (h : w.toNat = n) (hn : n < 2 ^ 31) : w.toInt = n := by
  rw [BitVec.toInt_eq_toNat_of_lt (by omega), h]

/-- Column 0 of the table holds the row. -/
theorem rIdx_row (L : IVec S1024 32) (r : Fin 1024) : (rIdx L (ix2 r (0 : Fin 2))).toInt = r.val := by
  have e : rIdx L (ix2 r (0 : Fin 2)) = BitVec.ofNat 32 r.val := by
    pointwise [rIdx]
    exact Routing.wrap_of_lt _ _ (by rw [BitVec.toNat_ofNat]; have := r.isLt; omega)
  rw [e]
  have := r.isLt
  exact toInt_of_lt (by rw [BitVec.toNat_ofNat]; omega) (by omega)

/-- Column 1 holds the label. -/
theorem rIdx_label (hl : ∀ r, (L (ix1 r)).toNat = (lab r).val) (r : Fin 1024) : (rIdx L (ix2 r (1 : Fin 2))).toInt = (lab r).val := by
  have hb := (lab r).isLt
  have e : rIdx L (ix2 r (1 : Fin 2)) = L (ix1 r) := by
    pointwise [rIdx]
    exact Routing.wrap_of_lt _ _ (by rw [hl]; omega)
  rw [e]
  exact toInt_of_lt (hl r) (by omega)

/-- Clipping leaves a logit of [−1, 1] as it is. -/
theorem rClip_at (hx : ∀ r c, X (ix2 r c) = ((x r c : ℝ) : EReal)) (hb : ∀ r c, -1 ≤ x r c ∧ x r c ≤ 1) (r : Fin 1024) (c : Fin 100000) :
    rClip X (ix2 r c) = ((x r c : ℝ) : EReal) := by
  have e : rClip X (ix2 r c) = min (Ideal.ofBits .f32 0x3F800000#32) (max (Ideal.ofBits .f32 0xBF800000#32) (X (ix2 r c))) := by
    pointwise [rClip, id]
  rw [e, ofBits_one, ofBits_neg_one, hx, max_eq_right (EReal.coe_le_coe_iff.2 (hb r c).1), min_eq_right (EReal.coe_le_coe_iff.2 (hb r c).2)]

/-- The label's logit of a row. -/
theorem rTl_at (hx : ∀ r c, X (ix2 r c) = ((x r c : ℝ) : EReal)) (hb : ∀ r c, -1 ≤ x r c ∧ x r c ≤ 1)
    (hl : ∀ r, (L (ix1 r)).toNat = (lab r).val) (r : Fin 1024) : rTl X L (ix2 r (0 : Fin 1)) = ((x r (lab r) : ℝ) : EReal) := by
  pointwise [rTl]
  rw [gather_pair _ _ r (lab r) (rIdx_row L r) (rIdx_label hl r), rClip_at hx hb]

theorem rCtm_at (hx : ∀ r c, X (ix2 r c) = ((x r c : ℝ) : EReal)) (hb : ∀ r c, -1 ≤ x r c ∧ x r c ≤ 1)
    (hl : ∀ r, (L (ix1 r)).toNat = (lab r).val) (r : Fin 1024) : rCtm X L (ix2 r (0 : Fin 1)) = ((ctm (x r (lab r)) : ℝ) : EReal) := by
  pointwise [rCtm]
  rw [rTl_at hx hb hl]
  exact ctm_coe (hb _ _)

/-- The threshold. -/
theorem rTnew_at (hx : ∀ r c, X (ix2 r c) = ((x r c : ℝ) : EReal)) (hb : ∀ r c, -1 ≤ x r c ∧ x r c ≤ 1)
    (hl : ∀ r, (L (ix1 r)).toNat = (lab r).val) (j : S_.Idx) : rTnew X L j = ((tnew (fun r => x r (lab r)) : ℝ) : EReal) := by
  have e : rTnew X L j = Ideal.div (∑ r : Fin 1024, rTl X L (ix2 r (0 : Fin 1))) (Ideal.ofBits .f32 0x44800000#32) * Ideal.ofBits .f32 0x3C23D70A#32
      + (1 - Ideal.ofBits .f32 0x3C23D70A#32) := by
    pointwise [rTnew]
    simp only [Fin.sum_univ_one]
  rw [e, Finset.sum_congr rfl fun r _ => rTl_at hx hb hl r, coe_sum, ofBits_1024, ofBits_alpha, Ideal.div_coe (by norm_num), ← EReal.coe_one]
  norm_cast
  unfold tnew; ring

theorem rMod_at (hx : ∀ r c, X (ix2 r c) = ((x r c : ℝ) : EReal)) (hb : ∀ r c, -1 ≤ x r c ∧ x r c ≤ 1)
    (hl : ∀ r, (L (ix1 r)).toNat = (lab r).val) (r : Fin 1024) (c : Fin 100000) :
    rMod X L (ix2 r c) = ((md (tnew fun r => x r (lab r)) (x r c) (ctm (x r (lab r))) : ℝ) : EReal) := by
  pointwise [rMod]
  rw [rCtm_at hx hb hl, rClip_at hx hb, rTnew_at hx hb hl]
  exact md_coe _ _ _

/-- A scaled logit. -/
theorem rLogits_at (hx : ∀ r c, X (ix2 r c) = ((x r c : ℝ) : EReal)) (hb : ∀ r c, -1 ≤ x r c ∧ x r c ≤ 1)
    (hl : ∀ r, (L (ix1 r)).toNat = (lab r).val) (r : Fin 1024) (c : Fin 100000) :
    rLogits X L (ix2 r c) = ((refLogit (tnew fun r => x r (lab r)) (x r) (lab r) c : ℝ) : EReal) := by
  pointwise [rLogits]
  have e : rFin X L (ix2 r c) = (((if c = lab r then ctm (x r (lab r)) else md (tnew fun r => x r (lab r)) (x r c) (ctm (x r (lab r)))) : ℝ) : EReal) := by
    unfold rFin
    rw [scatter_pair _ _ _ lab (rIdx_row L) (rIdx_label hl)]
    split
    · pointwise
      exact rCtm_at hx hb hl r
    · exact rMod_at hx hb hl r c
  rw [e, ofBits_64, ← EReal.coe_mul]
  rfl

/-- A row's sum. -/
theorem rowSums_at (Y : FVec Ideal S1024x100000 .f32) (r : Fin 1024) : rowSums Y (ix1 r) = ∑ c : Fin 100000, Y (ix2 r c) := by
  pointwise [rowSums]

/-- A row's loss. -/
theorem rNll_at (hx : ∀ r c, X (ix2 r c) = ((x r c : ℝ) : EReal)) (hb : ∀ r c, -1 ≤ x r c ∧ x r c ≤ 1)
    (hl : ∀ r, (L (ix1 r)).toNat = (lab r).val) (r : Fin 1024) :
    rNll X L (ix1 r) = ((Real.log (∑ c, Real.exp (refLogit (tnew fun r => x r (lab r)) (x r) (lab r) c)) - 64 * ctm (x r (lab r)) : ℝ) : EReal) := by
  pointwise [rNll]
  rw [gather_pair _ _ r (lab r) (rIdx_row L r) (rIdx_label hl r), rLogits_at hx hb hl, rowSums_at]
  have e : ∀ c : Fin 100000, Host.exp (rLogits X L) (ix2 r c) = ((Real.exp (refLogit (tnew fun r => x r (lab r)) (x r) (lab r) c) : ℝ) : EReal) := by
    intro c
    pointwise
    rw [rLogits_at hx hb hl, Ideal.exp_coe]
  have hp : ¬ ((∑ c, Real.exp (refLogit (tnew fun r => x r (lab r)) (x r) (lab r) c)) ≤ 0) :=
    not_le.2 (Finset.sum_pos (fun c _ => Real.exp_pos _) ⟨lab r, Finset.mem_univ _⟩)
  rw [Finset.sum_congr rfl fun c _ => e c, coe_sum, Ideal.log_coe, if_neg hp, ← EReal.coe_sub]
  rw [EReal.coe_eq_coe_iff]
  unfold refLogit
  rw [if_pos rfl]

/-- The reference's result. -/
theorem rOut_at (hx : ∀ r c, X (ix2 r c) = ((x r c : ℝ) : EReal)) (hb : ∀ r c, -1 ≤ x r c ∧ x r c ≤ 1)
    (hl : ∀ r, (L (ix1 r)).toNat = (lab r).val) (j : S_.Idx) : rOut X L j = ((refLoss x lab : ℝ) : EReal) := by
  have e : rOut X L j = Ideal.div (∑ r : Fin 1024, rNll X L (ix1 r)) (Ideal.ofBits .f32 0x44800000#32) := by
    pointwise [rOut]
  rw [e, Finset.sum_congr rfl fun r _ => rNll_at hx hb hl r, coe_sum, ofBits_1024, Ideal.div_coe (by norm_num), ← EReal.coe_mul, EReal.coe_eq_coe_iff]
  unfold refLoss
  ring

end Cert.Proof.Reference

end
-- ==== Proof.Algebraic.lean ====
/-
  The idealized kernel and the reference compute the same loss, over the extended reals, from cosines and labels that are
  columns.
-/
module

public import proofs.«01_k».proof.Proof.Inputs
public import proofs.«01_k».proof.Proof.KernelIdeal.Run
public import proofs.«01_k».proof.Proof.KernelIdeal.Value
public import proofs.«01_k».proof.Proof.Reference.Value

@[expose] public section

noncomputable section

namespace Cert.Proof

open Idealize.ShloMosaic Idealize.ShloMosaic.TcCoe Idealize.SL.Sem

/-- The flattened matrix at the word the gather reads for row `r` is the matrix at the row's label. -/
theorem flat_at (A : Cert.KernelIdeal.S1024x100000.Idx → EReal) (w : BitVec 32) (r : Fin 1024) (l : Fin 100000) (hw : w.toNat = l.val) :
    shapeCast Cert.KernelIdeal.S102400000 A Cert.KernelIdeal.Gen.shapeCasts_S1024x100000_S102400000 (KernelIdeal.flatIx r.val w) = A (ix2 r l) := by
  have hr := r.isLt
  have hl := l.isLt
  have e : KernelIdeal.flatIx r.val w = ix1 ⟨r.val * 100000 + l.val, by omega⟩ := by
    funext a
    apply Fin.ext
    match a with
    | ⟨0, _⟩ =>
      show (r.val * 100000 + w.toNat) % 102400000 = r.val * 100000 + l.val
      omega
  rw [e]
  pointwise

section

open Cert.KernelIdeal Cert.KernelIdeal.Gen

/-- The column the TensorCore call reads holds the labels' logits. -/
theorem gcol_at (m : (ℓ : Loc nD τ sig) → Buf (Elt Ideal) ℓ) (d : Dev nD) (lab : Fin 1024 → Fin 100000)
    (hl : ∀ r, (m (KernelIdeal.lLoc d) (ix1 r) : BitVec 32).toNat = (lab r).val) (r : Fin 1024) :
    KernelIdeal.gcol (KernelIdeal.atTc (KernelIdeal.V3 m)) d (ix2 r (0 : Fin 1)) = (m (KernelIdeal.aLoc d) : S1024x100000.Idx → EReal) (ix2 r (lab r)) := by
  have e : KernelIdeal.gcol (KernelIdeal.atTc (KernelIdeal.V3 m)) d (ix2 r (0 : Fin 1)) = (KernelIdeal.gat (KernelIdeal.lab m) (KernelIdeal.flat m) d : S1024.Idx → EReal) (ix1 r) := by
    refine (congrFun (KernelIdeal.V3_g m d) (ix2 r (0 : Fin 1))).trans ?_
    pointwise
  rw [e]
  exact flat_at _ _ r (lab r) (hl r)

end

/-- From agreeing arguments of which `cosines` holds both programs end with the same loss. -/
theorem algebraic : Cert.algebraic_KernelIdeal_ReferenceIdeal_pre_cosines := fun m g m' g' hpre hag => by
  refine ⟨fun c => fun _ => KernelIdeal.loss m c, ?_, ?_⟩
  · exact (θ_run _ _ _).mono (fun _ h => h.1) (KernelIdeal.run_main m g fun d j => labels_of_cosines (hpre d) j)
  · refine (θ_run _ _ _).mono (fun r h c => ⟨(h c).1.trans ?_, (h c).2⟩) (Cert.ReferenceIdeal.Value.run m' g')
    rw [Reference.res_eq, (hag c).1, (hag c).2]
    have hreal := fun i => real_of_cosines (hpre c) i
    choose x hx using fun (r : Fin 1024) (n : Fin 100000) => hreal (ix2 r n)
    have hlab := fun j => labels_of_cosines (hpre c) j
    funext j
    refine (Reference.rOut_at (x := x) (lab := fun r => ⟨_, hlab (ix1 r)⟩) (fun r n => (hx r n).1) (fun r n => (hx r n).2) (fun _ => rfl) j).trans ?_
    rw [← kernelLoss_eq]
    refine (KernelIdeal.result_at (KernelIdeal.atTc (KernelIdeal.V3 m)) c (fun r n => (hx r n).1) (fun r n => (hx r n).2) (KernelIdeal.V3_a m c) fun r => ?_).symm
    rw [gcol_at m c (fun r => ⟨_, hlab (ix1 r)⟩) (fun _ => rfl)]
    exact (hx r _).1

end Cert.Proof

end
-- ==== Proof.lean ====
/-
  The certificate's claim, assembled: the frames and the rewritten constant (Frames.lean), the equality of the results
  (Algebraic.lean).
-/
module

public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_labels_in_range
public import proofs.«01_k».proof.Proof.Gen.Pre_cosines

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_labels_in_range.Gen.facts,
    Cert.Pre_cosines.Gen.facts, frame_kernel, frame_ideal, frame_ideal_cosines, frame_reference, frame_reference_cosines,
    preserves, algebraic⟩

end Cert.Proof

end
